-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x4096 : Shape := ⟨3, ![192, 1, 4096]⟩
abbrev S4096x1792 : Shape := ⟨2, ![4096, 1792]⟩
abbrev S1792 : Shape := ⟨1, ![1792]⟩
abbrev S14336 : Shape := ⟨1, ![14336]⟩
abbrev S192x4096 : Shape := ⟨2, ![192, 4096]⟩
abbrev S14x1x128 : Shape := ⟨3, ![14, 1, 128]⟩
abbrev S14x128x8 : Shape := ⟨3, ![14, 128, 8]⟩
abbrev S14x8x128 : Shape := ⟨3, ![14, 8, 128]⟩
abbrev S192x14336 : Shape := ⟨2, ![192, 14336]⟩
abbrev S4096x128 : Shape := ⟨2, ![4096, 128]⟩
abbrev S1x1x128 : Shape := ⟨3, ![1, 1, 128]⟩
abbrev S1x8x128 : Shape := ⟨3, ![1, 8, 128]⟩
abbrev S192x1024 : Shape := ⟨2, ![192, 1024]⟩
abbrev S192x128 : Shape := ⟨2, ![192, 128]⟩
abbrev S192 : Shape := ⟨1, ![192]⟩
abbrev S192x1 : Shape := ⟨2, ![192, 1]⟩
abbrev S1x128 : Shape := ⟨2, ![1, 128]⟩
abbrev S2048x128 : Shape := ⟨2, ![2048, 128]⟩
abbrev S4096x256 : Shape := ⟨2, ![4096, 256]⟩
abbrev S192x256 : Shape := ⟨2, ![192, 256]⟩
abbrev S192x128x1 : Shape := ⟨3, ![192, 128, 1]⟩
abbrev S192x1x14336 : Shape := ⟨3, ![192, 1, 14336]⟩

abbrev nBuf : Space → Nat
  | .hbm => 11
  | .vmem => 10
  | .smem => 0
  | _ => 0

abbrev bufTy : (tb : Table) → Fin (tcTables nBuf tb) → BufTy
  | .hbm, ⟨0, _⟩ => ⟨S192x1x4096, .bf16⟩
  | .hbm, ⟨1, _⟩ => ⟨S4096x1792, .i32⟩
  | .hbm, ⟨2, _⟩ => ⟨S1792, .i32⟩
  | .hbm, ⟨3, _⟩ => ⟨S14336, .bf16⟩
  | .hbm, ⟨4, _⟩ => ⟨S192x4096, .bf16⟩
  | .hbm, ⟨5, _⟩ => ⟨S14x1x128, .i32⟩
  | .hbm, ⟨6, _⟩ => ⟨S14336, .f32⟩
  | .hbm, ⟨7, _⟩ => ⟨S14x128x8, .f32⟩
  | .hbm, ⟨8, _⟩ => ⟨S14x8x128, .f32⟩
  | .hbm, ⟨9, _⟩ => ⟨S192x14336, .bf16⟩
  | .hbm, ⟨10, _⟩ => ⟨S192x1x14336, .bf16⟩
  | .local _ .vmem, ⟨0, _⟩ => ⟨S192x4096, .bf16⟩
  | .local _ .vmem, ⟨1, _⟩ => ⟨S4096x128, .i32⟩
  | .local _ .vmem, ⟨2, _⟩ => ⟨S4096x128, .i32⟩
  | .local _ .vmem, ⟨3, _⟩ => ⟨S1x1x128, .i32⟩
  | .local _ .vmem, ⟨4, _⟩ => ⟨S1x1x128, .i32⟩
  | .local _ .vmem, ⟨5, _⟩ => ⟨S1x8x128, .f32⟩
  | .local _ .vmem, ⟨6, _⟩ => ⟨S1x8x128, .f32⟩
  | .local _ .vmem, ⟨7, _⟩ => ⟨S192x1024, .bf16⟩
  | .local _ .vmem, ⟨8, _⟩ => ⟨S192x1024, .bf16⟩
  | .local _ .vmem, ⟨9, _⟩ => ⟨S192x128, .f32⟩
  | _, _ => ⟨S192x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S192x1x4096 : Shape := ⟨3, ![192, 1, 4096]⟩
abbrev S4096x1792 : Shape := ⟨2, ![4096, 1792]⟩
abbrev S1792 : Shape := ⟨1, ![1792]⟩
abbrev S14336 : Shape := ⟨1, ![14336]⟩
abbrev S8 : Shape := ⟨1, ![8]⟩
abbrev S192x4096 : Shape := ⟨2, ![192, 4096]⟩
abbrev S_ : Shape := ⟨0, ![]⟩
abbrev S192 : Shape := ⟨1, ![192]⟩
abbrev S192x1 : Shape := ⟨2, ![192, 1]⟩
abbrev S4096x1792x1 : Shape := ⟨3, ![4096, 1792, 1]⟩
abbrev S1x1x8 : Shape := ⟨3, ![1, 1, 8]⟩
abbrev S4096x1792x8 : Shape := ⟨3, ![4096, 1792, 8]⟩
abbrev S4096x14336 : Shape := ⟨2, ![4096, 14336]⟩
abbrev S1792x1 : Shape := ⟨2, ![1792, 1]⟩
abbrev S1x8 : Shape := ⟨2, ![1, 8]⟩
abbrev S1792x8 : Shape := ⟨2, ![1792, 8]⟩
abbrev S1x14336 : Shape := ⟨2, ![1, 14336]⟩
abbrev S192x14336 : Shape := ⟨2, ![192, 14336]⟩
abbrev S192x1x14336 : Shape := ⟨3, ![192, 1, 14336]⟩

abbrev nBuf : Space → Nat
  | .hbm => 41
  | .vmem => 0
  | .smem => 0
  | _ => 0

abbrev bufTy : (tb : Table) → Fin (tcTables nBuf tb) → BufTy
  | .hbm, ⟨0, _⟩ => ⟨S192x1x4096, .bf16⟩
  | .hbm, ⟨1, _⟩ => ⟨S4096x1792, .i32⟩
  | .hbm, ⟨2, _⟩ => ⟨S1792, .i32⟩
  | .hbm, ⟨3, _⟩ => ⟨S14336, .bf16⟩
  | .hbm, ⟨4, _⟩ => ⟨S8, .i32⟩
  | .hbm, ⟨5, _⟩ => ⟨S192x4096, .bf16⟩
  | .hbm, ⟨6, _⟩ => ⟨S192x4096, .f32⟩
  | .hbm, ⟨7, _⟩ => ⟨S_, .f32⟩
  | .hbm, ⟨8, _⟩ => ⟨S192, .f32⟩
  | .hbm, ⟨9, _⟩ => ⟨S192x1, .f32⟩
  | .hbm, ⟨10, _⟩ => ⟨S4096x1792x1, .i32⟩
  | .hbm, ⟨11, _⟩ => ⟨S1x1x8, .i32⟩
  | .hbm, ⟨12, _⟩ => ⟨S4096x1792x8, .i32⟩
  | .hbm, ⟨13, _⟩ => ⟨S4096x1792x8, .i32⟩
  | .hbm, ⟨14, _⟩ => ⟨S4096x1792x8, .i32⟩
  | .hbm, ⟨15, _⟩ => ⟨S_, .i32⟩
  | .hbm, ⟨16, _⟩ => ⟨S4096x1792x8, .i32⟩
  | .hbm, ⟨17, _⟩ => ⟨S4096x1792x8, .i32⟩
  | .hbm, ⟨18, _⟩ => ⟨S4096x14336, .i32⟩
  | .hbm, ⟨19, _⟩ => ⟨S1792x1, .i32⟩
  | .hbm, ⟨20, _⟩ => ⟨S1x8, .i32⟩
  | .hbm, ⟨21, _⟩ => ⟨S1792x8, .i32⟩
  | .hbm, ⟨22, _⟩ => ⟨S1792x8, .i32⟩
  | .hbm, ⟨23, _⟩ => ⟨S1792x8, .i32⟩
  | .hbm, ⟨24, _⟩ => ⟨S_, .i32⟩
  | .hbm, ⟨25, _⟩ => ⟨S1792x8, .i32⟩
  | .hbm, ⟨26, _⟩ => ⟨S1792x8, .i32⟩
  | .hbm, ⟨27, _⟩ => ⟨S1x14336, .i32⟩
  | .hbm, ⟨28, _⟩ => ⟨S4096x14336, .bf16⟩
  | .hbm, ⟨29, _⟩ => ⟨S192x14336, .f32⟩
  | .hbm, ⟨30, _⟩ => ⟨S1x14336, .f32⟩
  | .hbm, ⟨31, _⟩ => ⟨S192x14336, .f32⟩
  | .hbm, ⟨32, _⟩ => ⟨S192x14336, .f32⟩
  | .hbm, ⟨33, _⟩ => ⟨S192x14336, .f32⟩
  | .hbm, ⟨34, _⟩ => ⟨S192x14336, .f32⟩
  | .hbm, ⟨35, _⟩ => ⟨S14336, .f32⟩
  | .hbm, ⟨36, _⟩ => ⟨S1x14336, .f32⟩
  | .hbm, ⟨37, _⟩ => ⟨S192x14336, .f32⟩
  | .hbm, ⟨38, _⟩ => ⟨S192x14336, .f32⟩
  | .hbm, ⟨39, _⟩ => ⟨S192x14336, .bf16⟩
  | .hbm, ⟨40, _⟩ => ⟨S192x1x14336, .bf16⟩
  | _, _ => ⟨S192x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Proof.Lanes.lean ====
/-
  The lane permutation that ends the kernel's body.

  The body computes eight planes of 192 rows and 128 lanes. Plane `j` holds, in lane `c`, the result of column
  `8 c + j` of the block. The result is stored as eight chunks of 128 lanes, so plane `j` has to be scattered to every
  eighth column. The kernel does this in three steps, each the same on every row:

  1. a gather in every plane (`spread`): lane `l` of plane `j` takes lane `16 ((l - j) mod 8) + l / 8`;
  2. three rounds of selection between planes (`rounds_apply`): lane `l` of result `q` is lane `l` of plane `(q + l) mod 8`;
  3. a gather in every result but the first (`settle`): lane `l` of chunk `b` takes lane `8 (l / 8) + ((l + b) mod 8)`
     of result `(8 - b) mod 8`.

  Together: lane `l` of chunk `b` is lane `16 b + l / 8` of plane `l mod 8` (`chunk`).
-/
module

public import proofs.«01_k».proof.Proof.Gen.KernelIdeal.Frame
public import Idealize.ShloMosaic.Lib.Pipeline.Value
public import Idealize.ShloMosaic.Lib.ValueIdxCore

@[expose] public section

set_option maxRecDepth 16384

noncomputable section

namespace Cert.KernelIdeal.Lanes

open Cert.KernelIdeal Cert.KernelIdeal.Gen Idealize.ShloMosaic Idealize.ShloMosaic.ValueIdx

/-! ## The words the kernel computes from a lane's number -/

/-- The remainder by eight with a nonnegative result, as the kernel computes it. -/
def mod8 (x : BitVec 32) : BitVec 32 :=
  let d : BitVec 32 := Scalar.select (Scalar.cmpi .eq 8#32 0#32) 1#32 8#32
  let r := IntOp.remsi .vector x d
  Scalar.select (IntOp.andi (IntOp.xori (IntOp.cmpi .slt r 0#32) (Scalar.cmpi .slt d 0#32)) (IntOp.cmpi .ne r 0#32))
    (IntOp.addi r d) r

/-- The quotient by eight rounded down, as the kernel computes it. -/
def div8 (x : BitVec 32) : BitVec 32 :=
  let q := IntOp.divsi .vector x 8#32
  let s := IntOp.subi ((IntOp.cmpi .sgt x 0#32).setWidth 32) ((IntOp.cmpi .slt x 0#32).setWidth 32)
  let s8 : BitVec 32 := Scalar.subi (Scalar.extui (Scalar.cmpi .sgt 8#32 0#32)) (Scalar.extui (Scalar.cmpi .slt 8#32 0#32))
  Scalar.select (IntOp.andi (IntOp.cmpi .ne s s8) (IntOp.cmpi .ne (IntOp.remsi .vector x 8#32) 0#32))
    (IntOp.subi q 1#32) q

/-- A negative lane number counted from the end. -/
def wrap (x : BitVec 32) : BitVec 32 := Scalar.select (IntOp.cmpi .slt x 0#32) (IntOp.addi x 128#32) x

/-- The lane the first gather reads in plane `j`, from the lane's remainder and quotient by eight. -/
def spreadW (j p s : BitVec 32) : BitVec 32 := wrap (IntOp.addi (IntOp.muli 16#32 (mod8 (IntOp.subi p j))) s)

/-- The lane the last gather reads for chunk `b`. -/
def settleW (b p s : BitVec 32) : BitVec 32 := wrap (IntOp.addi (IntOp.muli 8#32 s) (mod8 (IntOp.addi p b)))

/-- On a lane's number it is the remainder. -/
theorem mod8_lane : ∀ l : Fin 128, mod8 (BitVec.ofNat 32 l.val) = BitVec.ofNat 32 (l.val % 8) := by decide +kernel

/-- On a lane's number it is the quotient. -/
theorem div8_lane : ∀ l : Fin 128, div8 (BitVec.ofNat 32 l.val) = BitVec.ofNat 32 (l.val / 8) := by decide +kernel

/-- The first gather's word for plane `j` and lane `l`. -/
theorem spreadW_lane : ∀ (j : Fin 8) (l : Fin 128),
    (spreadW (BitVec.ofNat 32 j.val) (BitVec.ofNat 32 (l.val % 8)) (BitVec.ofNat 32 (l.val / 8))).toNat
      = 16 * ((l.val + 8 - j.val) % 8) + l.val / 8 := by decide +kernel

/-- The last gather's word for chunk `b` and lane `l`. -/
theorem settleW_lane : ∀ (b : Fin 8) (l : Fin 128),
    (settleW (BitVec.ofNat 32 b.val) (BitVec.ofNat 32 (l.val % 8)) (BitVec.ofNat 32 (l.val / 8))).toNat
      = 8 * (l.val / 8) + (l.val + b.val) % 8 := by decide +kernel

/-- Bit `k` of a lane's remainder by eight, tested as the kernel tests it. -/
def bitW (k p : BitVec 32) : BitVec 1 := IntOp.cmpi .eq (IntOp.andi (IntOp.shrsi .vector p k) 1#32) 1#32

/-- The test is true just where the bit is set. -/
theorem bitW_lane : ∀ (k : Fin 3) (p : Fin 8),
    bitW (BitVec.ofNat 32 k.val) (BitVec.ofNat 32 p.val) = BitVec.ofNat 1 (p.val / 2 ^ k.val % 2) := by decide +kernel

/-! ## The kernel's lane vectors -/

/-- The lane's number. -/
abbrev lane : IVec S192x128 32 := iota .tc S192x128 32 [1] iota_S192x128_d1_w32

/-- The lane's remainder by eight. -/
abbrev phase : IVec S192x128 32 := k0_pay38

/-- The lane's quotient by eight. -/
abbrev slot : IVec S192x128 32 := k0_pay42 lane 8#32 k0_pay39 k0_pay40 k0_pay41

/-- Each lane's number, as a word. -/
theorem lane_apply (i : S192x128.Idx) : lane i = BitVec.ofNat 32 (i 1).val := by
  show BitVec.ofNat 32 (0 * 128 + (i 1).val) = _
  rw [Nat.zero_mul, Nat.zero_add]

/-- Its remainder by eight. -/
theorem phase_apply (i : S192x128.Idx) : phase i = BitVec.ofNat 32 ((i 1).val % 8) := by
  show mod8 (lane i) = _
  rw [lane_apply]; exact mod8_lane (i 1)

/-- Its quotient by eight. -/
theorem slot_apply (i : S192x128.Idx) : slot i = BitVec.ofNat 32 ((i 1).val / 8) := by
  show div8 (lane i) = _
  rw [lane_apply]; exact div8_lane (i 1)

/-! ## One gather -/

/-- The lane the first gather reads in plane `j` for lane `l`. -/
def spreadLane (j : Fin 8) (l : Fin 128) : Fin 128 := ⟨16 * ((l.val + 8 - j.val) % 8) + l.val / 8, by omega⟩

/-- The lane the last gather reads for lane `l` of chunk `b`. -/
def settleLane (b : Fin 8) (l : Fin 128) : Fin 128 := ⟨8 * (l.val / 8) + (l.val + b.val) % 8, by omega⟩

section
variable {α : Type}

/-- A gather along the lanes by the word `idx i` reads lane `k` of the same row when the word is `k`. -/
theorem gather_apply (v : S192x128.Idx → α) (idx : IVec S192x128 32) (h : S192x128.ShapeCasts S192x128x1)
    (h' : S192x128x1.ShapeCasts S192x128) (i : S192x128.Idx) (k : Fin 128) (hk : (idx i).toNat = k.val) :
    dynamicGather 1 v (shapeCast S192x128 (shapeCast S192x128x1 idx h) h') i = v (ix2 (i 0) k) := by
  rw [shapeCast_shapeCast]
  unfold dynamicGather
  congr 1
  funext a
  match a with
  | ⟨0, _⟩ => rfl
  | ⟨1, _⟩ =>
    apply Fin.ext
    show (idx i).toNat % 128 = k.val
    rw [hk]; exact Nat.mod_eq_of_lt k.isLt

/-- The kernel's word for the first gather of plane `j` is the lane `spreadLane` names. -/
theorem spread_word (j : Fin 8) (i : S192x128.Idx) :
    (spreadW (BitVec.ofNat 32 j.val) (phase i) (slot i)).toNat = (spreadLane j (i 1)).val := by
  rw [phase_apply, slot_apply]; exact spreadW_lane j (i 1)

/-- The kernel's word for the last gather of chunk `b` is the lane `settleLane` names. -/
theorem settle_word (b : Fin 8) (i : S192x128.Idx) :
    (settleW (BitVec.ofNat 32 b.val) (phase i) (slot i)).toNat = (settleLane b (i 1)).val := by
  rw [phase_apply, slot_apply]; exact settleW_lane b (i 1)

/-- The kernel's test in round `k` is bit `k` of the lane's remainder by eight. -/
theorem bit_word (k : Fin 3) (i : S192x128.Idx) :
    bitW (BitVec.ofNat 32 k.val) (phase i) = BitVec.ofNat 1 ((i 1).val % 8 / 2 ^ k.val % 2) := by
  rw [phase_apply]; exact bitW_lane k ⟨(i 1).val % 8, by omega⟩

end

variable {F : FTy → Type} [FloatOps F]

/-! ## Step 1: the gather in every plane -/

variable (v : FVec F S192x128 .f32) (i : S192x128.Idx)

/-- Plane 0 after the first gather. -/
theorem spread_0 : k0_pay43 v lane phase 8#32 k0_pay39 k0_pay40 k0_pay41 i = v (ix2 (i 0) (spreadLane 0 (i 1))) :=
  gather_apply _ _ _ _ _ _ (spread_word 0 i)

/-- Plane 1 after the first gather. -/
theorem spread_1 : k0_pay45 v slot 8#32 (k0_pay44 phase) i = v (ix2 (i 0) (spreadLane 1 (i 1))) :=
  gather_apply _ _ _ _ _ _ (spread_word 1 i)

/-- Plane 2 after the first gather. -/
theorem spread_2 : k0_pay48 v (k0_pay46 phase slot) k0_pay47 i = v (ix2 (i 0) (spreadLane 2 (i 1))) :=
  gather_apply _ _ _ _ _ _ (spread_word 2 i)

/-- Plane 3 after the first gather. -/
theorem spread_3 : k0_pay49 v phase slot i = v (ix2 (i 0) (spreadLane 3 (i 1))) :=
  gather_apply _ _ _ _ _ _ (spread_word 3 i)

/-- Plane 4 after the first gather. -/
theorem spread_4 : k0_pay52 v slot 8#32 (k0_pay50 phase) (k0_pay51 phase) i = v (ix2 (i 0) (spreadLane 4 (i 1))) :=
  gather_apply _ _ _ _ _ _ (spread_word 4 i)

/-- Plane 5 after the first gather. -/
theorem spread_5 : k0_pay56 v (k0_pay53 phase slot) (k0_pay54 phase slot) k0_pay55 i
    = v (ix2 (i 0) (spreadLane 5 (i 1))) :=
  gather_apply _ _ _ _ _ _ (spread_word 5 i)

/-- Plane 6 after the first gather. -/
theorem spread_6 : k0_pay57 v phase slot i = v (ix2 (i 0) (spreadLane 6 (i 1))) :=
  gather_apply _ _ _ _ _ _ (spread_word 6 i)

/-- Plane 7 after the first gather. -/
theorem spread_7 : k0_pay61 v slot 8#32 (k0_pay58 phase) (k0_pay59 phase) (k0_pay60 phase) i
    = v (ix2 (i 0) (spreadLane 7 (i 1))) :=
  gather_apply _ _ _ _ _ _ (spread_word 7 i)

/-! ## Step 2: the three rounds of selection -/

/-- Round `k`: result `q` takes plane `q + 2^k` where bit `k` of the lane's number is set and plane `q` elsewhere. -/
def round (k : Fin 3) (S : Fin 8 → FVec F S192x128 .f32) (q : Fin 8) : FVec F S192x128 .f32 :=
  select (fun i => bitW (BitVec.ofNat 32 k.val) (phase i)) (S (q + ![1, 2, 4] k)) (S q)

/-- The plane which lane `l` of result `q` comes from. -/
def rotPlane (q : Fin 8) (l : Fin 128) : Fin 8 := ⟨(q.val + l.val) % 8, by omega⟩

/-- After the three rounds lane `l` of result `q` is lane `l` of plane `(q + l) mod 8`. -/
theorem rounds_apply (S : Fin 8 → FVec F S192x128 .f32) (q : Fin 8) (i : S192x128.Idx) :
    round 2 (round 1 (round 0 S)) q i = S (rotPlane q (i 1)) i := by
  have key : ∀ q x : Fin 8, (i 1).val % 8 = x.val →
      round 2 (round 1 (round 0 S)) q i = S ⟨(q.val + x.val) % 8, by omega⟩ i := fun q x hx => by
    unfold round
    simp only [select_apply, bit_word, hx]
    fin_cases q <;> fin_cases x <;> rfl
  have hp : rotPlane q (i 1) = ⟨(q.val + (i 1).val % 8) % 8, by omega⟩ := Fin.ext (by
    show (q.val + (i 1).val) % 8 = (q.val + (i 1).val % 8) % 8
    omega)
  rw [hp]
  exact key q ⟨(i 1).val % 8, by omega⟩ rfl

/-- The eight planes after the first gather: the first seven given, the last as the rounds receive it. -/
abbrev planes (S0 S1 S2 S3 S4 S5 S6 p7 : FVec F S192x128 .f32) : Fin 8 → FVec F S192x128 .f32 :=
  ![S0, S1, S2, S3, S4, S5, S6, k0_pay61 p7 slot 8#32 (k0_pay58 phase) (k0_pay59 phase) (k0_pay60 phase)]

/-! ## Step 3: the gather of every chunk, over the rounds -/

variable (S0 S1 S2 S3 S4 S5 S6 p7 : FVec F S192x128 .f32)

/-- Chunk 0: result 0 of the rounds, read in place. -/
theorem settle_0 :
    k0_pay82 (k0_pay72 phase S0 S1 S2 S3)
        (k0_pay76 p7 phase slot S4 S5 S6 8#32 (k0_pay58 phase) (k0_pay59 phase) (k0_pay60 phase)) (k0_pay80 phase) i
      = planes S0 S1 S2 S3 S4 S5 S6 p7 (rotPlane 0 (i 1)) i :=
  rounds_apply (planes S0 S1 S2 S3 S4 S5 S6 p7) 0 i

/-- Chunk 1: result 7 of the rounds, gathered. -/
theorem settle_1 :
    k0_pay89 phase slot (k0_pay75 phase S3 S4 S5 S6)
        (k0_pay79 p7 phase slot S0 S1 S2 8#32 (k0_pay58 phase) (k0_pay59 phase) (k0_pay60 phase)) (k0_pay80 phase) i
      = planes S0 S1 S2 S3 S4 S5 S6 p7 (rotPlane 7 (settleLane 1 (i 1))) (ix2 (i 0) (settleLane 1 (i 1))) :=
  (gather_apply _ _ _ _ _ _ (settle_word 1 i)).trans
    (rounds_apply (planes S0 S1 S2 S3 S4 S5 S6 p7) 7 (ix2 (i 0) (settleLane 1 (i 1))))

/-- Chunk 2: result 6 of the rounds, gathered. -/
theorem settle_2 :
    k0_pay92 (k0_pay88 (k0_pay74 phase S2 S3 S4 S5)
        (k0_pay78 p7 phase slot S0 S1 S6 8#32 (k0_pay58 phase) (k0_pay59 phase) (k0_pay60 phase)) (k0_pay80 phase))
        (k0_pay90 slot) (k0_pay91 phase) 8#32 i
      = planes S0 S1 S2 S3 S4 S5 S6 p7 (rotPlane 6 (settleLane 2 (i 1))) (ix2 (i 0) (settleLane 2 (i 1))) :=
  (gather_apply _ _ _ _ _ _ (settle_word 2 i)).trans
    (rounds_apply (planes S0 S1 S2 S3 S4 S5 S6 p7) 6 (ix2 (i 0) (settleLane 2 (i 1))))

/-- Chunk 3: result 5 of the rounds, gathered. -/
theorem settle_3 :
    k0_pay95 (k0_pay87 (k0_pay73 phase S1 S2 S3 S4)
        (k0_pay77 p7 phase slot S0 S5 S6 8#32 (k0_pay58 phase) (k0_pay59 phase) (k0_pay60 phase)) (k0_pay80 phase))
        (k0_pay93 slot) (k0_pay94 phase) i
      = planes S0 S1 S2 S3 S4 S5 S6 p7 (rotPlane 5 (settleLane 3 (i 1))) (ix2 (i 0) (settleLane 3 (i 1))) :=
  (gather_apply _ _ _ _ _ _ (settle_word 3 i)).trans
    (rounds_apply (planes S0 S1 S2 S3 S4 S5 S6 p7) 5 (ix2 (i 0) (settleLane 3 (i 1))))

/-- Chunk 4: result 4 of the rounds, gathered. -/
theorem settle_4 :
    k0_pay96 phase slot (k0_pay86 (k0_pay72 phase S0 S1 S2 S3)
        (k0_pay76 p7 phase slot S4 S5 S6 8#32 (k0_pay58 phase) (k0_pay59 phase) (k0_pay60 phase)) (k0_pay80 phase)) i
      = planes S0 S1 S2 S3 S4 S5 S6 p7 (rotPlane 4 (settleLane 4 (i 1))) (ix2 (i 0) (settleLane 4 (i 1))) :=
  (gather_apply _ _ _ _ _ _ (settle_word 4 i)).trans
    (rounds_apply (planes S0 S1 S2 S3 S4 S5 S6 p7) 4 (ix2 (i 0) (settleLane 4 (i 1))))

/-- Chunk 5: result 3 of the rounds, gathered. -/
theorem settle_5 :
    k0_pay99 (k0_pay85 (k0_pay75 phase S3 S4 S5 S6)
        (k0_pay79 p7 phase slot S0 S1 S2 8#32 (k0_pay58 phase) (k0_pay59 phase) (k0_pay60 phase)) (k0_pay80 phase))
        (k0_pay97 slot) (k0_pay98 phase) 8#32 (Scalar.cmpi .eq 8#32 0#32) 1#32 i
      = planes S0 S1 S2 S3 S4 S5 S6 p7 (rotPlane 3 (settleLane 5 (i 1))) (ix2 (i 0) (settleLane 5 (i 1))) :=
  (gather_apply _ _ _ _ _ _ (settle_word 5 i)).trans
    (rounds_apply (planes S0 S1 S2 S3 S4 S5 S6 p7) 3 (ix2 (i 0) (settleLane 5 (i 1))))

/-- Chunk 6: result 2 of the rounds, gathered. -/
theorem settle_6 :
    k0_pay102 (k0_pay84 (k0_pay74 phase S2 S3 S4 S5)
        (k0_pay78 p7 phase slot S0 S1 S6 8#32 (k0_pay58 phase) (k0_pay59 phase) (k0_pay60 phase)) (k0_pay80 phase))
        (k0_pay100 phase slot) k0_pay101 i
      = planes S0 S1 S2 S3 S4 S5 S6 p7 (rotPlane 2 (settleLane 6 (i 1))) (ix2 (i 0) (settleLane 6 (i 1))) :=
  (gather_apply _ _ _ _ _ _ (settle_word 6 i)).trans
    (rounds_apply (planes S0 S1 S2 S3 S4 S5 S6 p7) 2 (ix2 (i 0) (settleLane 6 (i 1))))

/-- Chunk 7: result 1 of the rounds, gathered. -/
theorem settle_7 :
    k0_pay103 phase slot (k0_pay83 (k0_pay73 phase S1 S2 S3 S4)
        (k0_pay77 p7 phase slot S0 S5 S6 8#32 (k0_pay58 phase) (k0_pay59 phase) (k0_pay60 phase)) (k0_pay80 phase)) i
      = planes S0 S1 S2 S3 S4 S5 S6 p7 (rotPlane 1 (settleLane 7 (i 1))) (ix2 (i 0) (settleLane 7 (i 1))) :=
  (gather_apply _ _ _ _ _ _ (settle_word 7 i)).trans
    (rounds_apply (planes S0 S1 S2 S3 S4 S5 S6 p7) 1 (ix2 (i 0) (settleLane 7 (i 1))))

/-! ## The three steps together -/

/-- The eight planes after the first gather, from the planes before it. -/
abbrev spread (p : Fin 8 → FVec F S192x128 .f32) : Fin 8 → FVec F S192x128 .f32 :=
  planes (k0_pay43 (p 0) lane phase 8#32 k0_pay39 k0_pay40 k0_pay41) (k0_pay45 (p 1) slot 8#32 (k0_pay44 phase))
    (k0_pay48 (p 2) (k0_pay46 phase slot) k0_pay47) (k0_pay49 (p 3) phase slot)
    (k0_pay52 (p 4) slot 8#32 (k0_pay50 phase) (k0_pay51 phase))
    (k0_pay56 (p 5) (k0_pay53 phase slot) (k0_pay54 phase slot) k0_pay55) (k0_pay57 (p 6) phase slot) (p 7)

/-- Plane `j` after the first gather holds in lane `l` what it held in lane `16 ((l - j) mod 8) + l / 8`. -/
theorem spread_apply (p : Fin 8 → FVec F S192x128 .f32) (j : Fin 8) (i : S192x128.Idx) :
    spread p j i = p j (ix2 (i 0) (spreadLane j (i 1))) := by
  fin_cases j
  · exact spread_0 (p 0) i
  · exact spread_1 (p 1) i
  · exact spread_2 (p 2) i
  · exact spread_3 (p 3) i
  · exact spread_4 (p 4) i
  · exact spread_5 (p 5) i
  · exact spread_6 (p 6) i
  · exact spread_7 (p 7) i

/-- The plane a lane of the block's result comes from. -/
def outPlane (l : Fin 128) : Fin 8 := ⟨l.val % 8, by omega⟩

/-- The lane, in its plane, that lane `l` of chunk `b` comes from. -/
def outLane (b : Fin 8) (l : Fin 128) : Fin 128 := ⟨16 * b.val + l.val / 8, by omega⟩

/-- Selection and second gather read plane `l mod 8` in every chunk. -/
theorem rotPlane_settle (q b : Fin 8) (h : (q.val + b.val) % 8 = 0) (l : Fin 128) :
    rotPlane q (settleLane b l) = outPlane l := by
  apply Fin.ext
  show (q.val + (8 * (l.val / 8) + (l.val + b.val) % 8)) % 8 = l.val % 8
  omega

/-- First and second gather together read lane `16 b + l / 8`. -/
theorem spread_settle (b : Fin 8) (l : Fin 128) : spreadLane (outPlane l) (settleLane b l) = outLane b l := by
  apply Fin.ext
  show 16 * ((8 * (l.val / 8) + (l.val + b.val) % 8 + 8 - l.val % 8) % 8) + (8 * (l.val / 8) + (l.val + b.val) % 8) / 8
    = 16 * b.val + l.val / 8
  omega

/-- Lane `l` of chunk `b` is lane `16 b + l / 8` of plane `l mod 8`. -/
theorem chunk (p : Fin 8 → FVec F S192x128 .f32) (q b : Fin 8) (h : (q.val + b.val) % 8 = 0) (r : Fin 192) (l : Fin 128) :
    spread p (rotPlane q (settleLane b l)) (ix2 r (settleLane b l)) = p (outPlane l) (ix2 r (outLane b l)) := by
  rw [rotPlane_settle q b h, spread_apply]
  show p _ (ix2 r (spreadLane (outPlane l) (settleLane b l))) = _
  rw [spread_settle]

/-- Chunk 0 needs no second gather. -/
theorem settleLane_zero (l : Fin 128) : settleLane 0 l = l := by
  apply Fin.ext
  show 8 * (l.val / 8) + (l.val + 0) % 8 = l.val
  omega

/-- Chunk 0, where the kernel skips the second gather. -/
theorem chunk_zero (p : Fin 8 → FVec F S192x128 .f32) (i : S192x128.Idx) :
    spread p (rotPlane 0 (i 1)) i = p (outPlane (i 1)) (ix2 (i 0) (outLane 0 (i 1))) := by
  have h := chunk p 0 0 rfl (i 0) (i 1)
  rw [settleLane_zero (i 1)] at h
  exact (congrArg (spread p (rotPlane 0 (i 1))) (eq_ix2 i)).trans h

end Cert.KernelIdeal.Lanes
-- ==== Proof.Body.lean ====
/-
  What one grid point leaves in the output block and in the scratch buffer, as plain functions of its input blocks.

  The body finds eight planes (`plane`), one per position in a packed word, and scatters them into the block
  (Lanes.lean): column `p` of the block is lane `p / 8` of plane `p mod 8`. Point 0 first stores the row sums of `x` in
  the scratch buffer; the other points read what point 0 stored.
-/
module

public import proofs.«01_k».proof.Proof.Lanes
public import Idealize.ShloMosaic.Lib.Pipeline.ValueKit.Tiles

@[expose] public section

set_option maxRecDepth 16384

noncomputable section

namespace Cert.KernelIdeal.Body

open Cert.KernelIdeal Cert.KernelIdeal.Gen Cert.KernelIdeal.Lanes
open Idealize.ShloMosaic Idealize.ShloMosaic.TcCoe Idealize.ShloMosaic.ValueIdx Idealize.SL.Sem

variable {F : FTy → Type} [FloatOps F]

/-- The eight planes of a block, from the blocks of `x`, of the packed weights, of the packed zero points and of the
    scales, and from the row sums. -/
def plane (x0 : Vec F S192x4096 .bf16) (x1 : Vec F S4096x128 .i32) (x2 : Vec F S1x1x128 .i32) (x3 : Vec F S1x8x128 .f32)
    (xs : Vec F S192x128 .f32) : Fin 8 → FVec F S192x128 .f32 :=
  ![k0_pay11 xs (k0_pay9 x1 x0) (k0_pay10 x2) (View.ld x3 (Rect.unit ![0, 0, 0] ![1, 1, 128] inb_S1x8x128_S1x1x128_0_0_0)),
    k0_pay22 xs (k0_pay7 x2) (k0_pay19 x1) (k0_pay20 x1) 7864440#32 x0
      (View.ld x3 (Rect.unit ![0, 1, 0] ![1, 1, 128] inb_S1x8x128_S1x1x128_0_1_0)),
    k0_pay12 xs (k0_pay7 x2) (k0_pay9 x1 x0) (View.ld x3 (Rect.unit ![0, 2, 0] ![1, 1, 128] inb_S1x8x128_S1x1x128_0_2_0)),
    k0_pay23 xs (k0_pay7 x2) (k0_pay19 x1) (k0_pay20 x1) 7864440#32 x0
      (View.ld x3 (Rect.unit ![0, 3, 0] ![1, 1, 128] inb_S1x8x128_S1x1x128_0_3_0)),
    k0_pay16 xs (k0_pay7 x2) (k0_pay13 x0) (k0_pay14 (F := F) (k0_pay8 (F := F) x1))
      (View.ld x3 (Rect.unit ![0, 4, 0] ![1, 1, 128] inb_S1x8x128_S1x1x128_0_4_0)),
    k0_pay27 xs (k0_pay7 x2) (k0_pay18 x1) (k0_pay24 (k0_pay18 x1)) k0_pay25 x0
      (View.ld x3 (Rect.unit ![0, 5, 0] ![1, 1, 128] inb_S1x8x128_S1x1x128_0_5_0)),
    k0_pay17 xs (k0_pay7 x2) (k0_pay13 x0) (k0_pay14 (F := F) (k0_pay8 (F := F) x1))
      (View.ld x3 (Rect.unit ![0, 6, 0] ![1, 1, 128] inb_S1x8x128_S1x1x128_0_6_0)),
    mulf (k0_pay28 xs (k0_pay7 x2) (k0_pay18 x1) (k0_pay24 (k0_pay18 x1)) k0_pay25 x0)
      (k0_pay29 (View.ld x3 (Rect.unit ![0, 7, 0] ![1, 1, 128] inb_S1x8x128_S1x1x128_0_7_0)))]

/-- A plane rounded to the result's format and widened again. -/
def rounded (v : FVec F S192x128 .f32) : FVec F S192x128 .f32 :=
  extf .f32 (truncf .bf16 v bitsLt_bf16_f32) bitsLt_bf16_f32

/-- The block one point leaves: column `p` is lane `p / 8` of plane `p mod 8`, rounded. -/
def block (x0 : Vec F S192x4096 .bf16) (x1 : Vec F S4096x128 .i32) (x2 : Vec F S1x1x128 .i32) (x3 : Vec F S1x8x128 .f32)
    (xs : Vec F S192x128 .f32) : Vec F S192x1024 .bf16 := fun y =>
  truncf .bf16 (rounded (plane x0 x1 x2 x3 xs ⟨(y 1).val % 8, Nat.mod_lt _ (by omega)⟩)) bitsLt_bf16_f32
    (ix2 (y 0) ⟨(y 1).val / 8, by have : (y 1).val < 1024 := (y 1).isLt; omega⟩)

/-- The eight planes, rounded. -/
abbrev rplane (x0 : Vec F S192x4096 .bf16) (x1 : Vec F S4096x128 .i32) (x2 : Vec F S1x1x128 .i32) (x3 : Vec F S1x8x128 .f32)
    (xs : Vec F S192x128 .f32) (j : Fin 8) : FVec F S192x128 .f32 := rounded (plane x0 x1 x2 x3 xs j)

section
variable (x0 : Vec F S192x4096 .bf16) (x1 : Vec F S4096x128 .i32) (x2 : Vec F S1x1x128 .i32) (x3 : Vec F S1x8x128 .f32)
  (xs : Vec F S192x128 .f32)

/-- Lane `l` of chunk `b` is column `128 b + l` of the block. -/
theorem chunk_block (b : Fin 8) (x : S192x128.Idx) (y : S192x1024.Idx) (h0 : (y 0).val = (x 0).val)
    (h1 : (y 1).val = 128 * b.val + (x 1).val) :
    truncf .bf16 (rplane x0 x1 x2 x3 xs (outPlane (x 1))) bitsLt_bf16_f32 (ix2 (x 0) (outLane b (x 1)))
      = block x0 x1 x2 x3 xs y := by
  have hx : (x 1).val < 128 := (x 1).isLt
  unfold block
  have e1 : outPlane (x 1) = ⟨(y 1).val % 8, Nat.mod_lt _ (by omega)⟩ := Fin.ext (by
    show (x 1).val % 8 = (y 1).val % 8
    omega)
  have e2 : outLane b (x 1) = ⟨(y 1).val / 8, by have : (y 1).val < 1024 := (y 1).isLt; omega⟩ := Fin.ext (by
    show 16 * b.val + (x 1).val / 8 = (y 1).val / 8
    omega)
  have e0 : (x 0 : Fin 192) = y 0 := Fin.ext h0.symm
  rw [e1, e2]
  exact congrArg (fun r : Fin 192 => truncf .bf16 (rplane x0 x1 x2 x3 xs _) bitsLt_bf16_f32 (ix2 r _)) e0

/-- A chunk whose second gather was `settle` of result `q` leaves the block's columns. -/
theorem chunk_eq (q b : Fin 8) (h : (q.val + b.val) % 8 = 0) (x : S192x128.Idx) (y : S192x1024.Idx)
    (h0 : (y 0).val = (x 0).val) (h1 : (y 1).val = 128 * b.val + (x 1).val) (v : FVec F S192x128 .f32)
    (hv : v x = spread (rplane x0 x1 x2 x3 xs) (rotPlane q (settleLane b (x 1))) (ix2 (x 0) (settleLane b (x 1)))) :
    truncf .bf16 v bitsLt_bf16_f32 x = block x0 x1 x2 x3 xs y := by
  rw [← chunk_block x0 x1 x2 x3 xs b x y h0 h1]
  show FloatOps.truncf .bf16 _ (v x) = FloatOps.truncf .bf16 _ _
  rw [hv]
  exact congrArg _ (chunk _ q b h (x 0) (x 1))

/-- The first chunk, which needs no second gather, leaves the block's first columns. -/
theorem first_eq (x : S192x128.Idx) (y : S192x1024.Idx)
    (h0 : (y 0).val = (x 0).val) (h1 : (y 1).val = (x 1).val) (v : FVec F S192x128 .f32)
    (hv : v x = spread (rplane x0 x1 x2 x3 xs) (rotPlane 0 (x 1)) x) :
    truncf .bf16 v bitsLt_bf16_f32 x = block x0 x1 x2 x3 xs y := by
  rw [← chunk_block x0 x1 x2 x3 xs 0 x y h0 (by simpa using h1)]
  show FloatOps.truncf .bf16 _ (v x) = FloatOps.truncf .bf16 _ _
  rw [hv]
  exact congrArg _ (chunk_zero _ x)

end

section
variable (c : Dev nD) (i : grid0.Coords) (a1 : Memref sig .tc .vmem S192x4096 .bf16) (h1 : a1.IsWhole)
    (a2 : Memref sig .tc .vmem S4096x128 .i32) (h2 : a2.IsWhole) (a3 : Memref sig .tc .vmem S1x1x128 .i32) (h3 : a3.IsWhole)
    (a4 : Memref sig .tc .vmem S1x8x128 .f32) (h4 : a4.IsWhole) (a5 : Memref sig .tc .vmem S192x1024 .bf16) (h5 : a5.IsWhole)
    (a6 : Memref sig .tc .vmem S192x128 .f32) (h6 : a6.IsWhole)
    (x0 : Vec F S192x4096 .bf16) (x1 : Vec F S4096x128 .i32) (x2 : Vec F S1x1x128 .i32) (x3 : Vec F S1x8x128 .f32)

/-- A point after the first leaves the block over the row sums it finds in the scratch buffer. -/
theorem out_B (hc : ¬cond0_0 i) (xs : Vec F S192x128 .f32) :
    out0_B_4 c i a1 h1 a2 h2 a3 h3 a4 h4 a5 h5 a6 h6 hc x0 x1 x2 x3 xs = block x0 x1 x2 x3 xs := by
  funext y
  frame_out
  canon_tiles x h
  · exact chunk_eq x0 x1 x2 x3 xs 1 7 rfl x y h0 (by simpa using h1) _ (settle_7 x ..)
  · exact chunk_eq x0 x1 x2 x3 xs 2 6 rfl x y h0 (by simpa using h1) _ (settle_6 x ..)
  · exact chunk_eq x0 x1 x2 x3 xs 3 5 rfl x y h0 (by simpa using h1) _ (settle_5 x ..)
  · exact chunk_eq x0 x1 x2 x3 xs 4 4 rfl x y h0 (by simpa using h1) _ (settle_4 x ..)
  · exact chunk_eq x0 x1 x2 x3 xs 5 3 rfl x y h0 (by simpa using h1) _ (settle_3 x ..)
  · exact chunk_eq x0 x1 x2 x3 xs 6 2 rfl x y h0 (by simpa using h1) _ (settle_2 x ..)
  · exact chunk_eq x0 x1 x2 x3 xs 7 1 rfl x y h0 (by simpa using h1) _ (settle_1 x ..)
  · exact first_eq x0 x1 x2 x3 xs x y h0 (by simpa using h1) _ (settle_0 x ..)

/-- The first point leaves the block over the row sums of its own block of `x`. -/
theorem out_A (hc : cond0_0 i) :
    out0_A_4 c i a1 h1 a2 h2 a3 h3 a4 h4 a5 h5 a6 h6 hc x0 x1 x2 x3 = block x0 x1 x2 x3 (k0_pay6 x0) := by
  funext y
  frame_out
  canon_tiles x h
  · exact chunk_eq x0 x1 x2 x3 (k0_pay6 x0) 1 7 rfl x y h0 (by simpa using h1) _ (settle_7 x ..)
  · exact chunk_eq x0 x1 x2 x3 (k0_pay6 x0) 2 6 rfl x y h0 (by simpa using h1) _ (settle_6 x ..)
  · exact chunk_eq x0 x1 x2 x3 (k0_pay6 x0) 3 5 rfl x y h0 (by simpa using h1) _ (settle_5 x ..)
  · exact chunk_eq x0 x1 x2 x3 (k0_pay6 x0) 4 4 rfl x y h0 (by simpa using h1) _ (settle_4 x ..)
  · exact chunk_eq x0 x1 x2 x3 (k0_pay6 x0) 5 3 rfl x y h0 (by simpa using h1) _ (settle_3 x ..)
  · exact chunk_eq x0 x1 x2 x3 (k0_pay6 x0) 6 2 rfl x y h0 (by simpa using h1) _ (settle_2 x ..)
  · exact chunk_eq x0 x1 x2 x3 (k0_pay6 x0) 7 1 rfl x y h0 (by simpa using h1) _ (settle_1 x ..)
  · exact first_eq x0 x1 x2 x3 (k0_pay6 x0) x y h0 (by simpa using h1) _ (settle_0 x ..)

/-- The first point leaves the row sums of its block of `x` in the scratch buffer. -/
theorem sout_A (hc : cond0_0 i) :
    sout0_A_0 c i a1 h1 a2 h2 a3 h3 a4 h4 a5 h5 a6 h6 hc x0 x1 x2 x3 = k0_pay6 x0 := by
  frame_out

/-- A point after the first leaves the scratch buffer as it found it. -/
theorem sout_B (hc : ¬cond0_0 i) (xs : Vec F S192x128 .f32) :
    sout0_B_0 c i a1 h1 a2 h2 a3 h3 a4 h4 a5 h5 a6 h6 hc x0 x1 x2 x3 xs = xs := rfl

end

end Cert.KernelIdeal.Body
-- ==== Proof.Result.lean ====
/-
  The result of the quantized product, as a function of the four arguments over the extended reals, and the 4-bit codes
  it is stated with. Both programs are shown to leave it.
-/
module

public import Idealize.ShloMosaic.PureOps.Ideal.Laws
public import Idealize.ShloMosaic.Lib.ValueIdxCore

@[expose] public section

set_option maxRecDepth 16384

noncomputable section

namespace Cert.Result

open Idealize.ShloMosaic Idealize.ShloMosaic.ValueIdx
open scoped BigOperators

/-- Code `n` of a packed word: bits `4 n` to `4 n + 3`. -/
def code (n : ℕ) (w : BitVec 32) : BitVec 4 := w.extractLsb' (4 * n) 4

/-- A code as a number. -/
def num (c : BitVec 4) : EReal := ((c.toNat : ℝ) : EReal)

/-- The nibble of a packed word that holds the code of column `j` of its eight columns. -/
def nibble : Fin 8 → ℕ := ![0, 4, 1, 5, 2, 6, 3, 7]

/-- The result at row `r` and column `c`: the row of `x` times the codes of column `c`, less the row's sum times the
    column's zero point, times the column's scale. Eight columns share a packed word, column `c` being in word `c / 8` at
    nibble `nibble (c mod 8)`. -/
def result (x : (⟨3, ![192, 1, 4096]⟩ : Shape).Idx → EReal) (w : (⟨2, ![4096, 1792]⟩ : Shape).Idx → BitVec 32)
    (z : (⟨1, ![1792]⟩ : Shape).Idx → BitVec 32) (s : (⟨1, ![14336]⟩ : Shape).Idx → EReal) (r : Fin 192) (c : Fin 14336) : EReal :=
  ((∑ k : Fin 4096, x (ix3 r (0 : Fin 1) k)
        * num (code (nibble ⟨c.val % 8, by omega⟩) (w (ix2 k (⟨c.val / 8, by omega⟩ : Fin 1792)))))
      - (∑ k : Fin 4096, x (ix3 r (0 : Fin 1) k))
        * num (code (nibble ⟨c.val % 8, by omega⟩) (z (ix1 (⟨c.val / 8, by omega⟩ : Fin 1792)))))
    * s (ix1 c)

/-! ## Codes from shifted words -/

/-- A word moved right by `4 n` and masked by 15, as an integer: code `n`. -/
theorem masked (w : BitVec 32) (n : ℕ) : (((w >>> (4 * n)) &&& 15#32).toInt : ℝ) = ((code n w).toNat : ℝ) := by
  have e : (w >>> (4 * n)) &&& 15#32 = (code n w).setWidth 32 := by
    apply BitVec.eq_of_getLsbD_eq
    intro i hi
    have h15 : (15#32).getLsbD i = decide (i < 4) := by interval_cases i <;> rfl
    rw [BitVec.getLsbD_and, h15, BitVec.getLsbD_ushiftRight, BitVec.getLsbD_setWidth]
    simp only [code, BitVec.getLsbD_extractLsb']
    by_cases h4 : i < 4 <;> simp [h4, hi]
  have hlt : (code n w).toNat < 16 := (code n w).isLt
  rw [e, BitVec.toInt_eq_toNat_of_lt (by rw [BitVec.toNat_setWidth]; omega), BitVec.toNat_setWidth,
    Nat.mod_eq_of_lt (by omega)]
  simp

/-- Moved right with the sign kept, and masked: the same code, for `n` below eight. -/
theorem masked_signed (w : BitVec 32) (n : ℕ) (hn : n < 8) : (w.sshiftRight (4 * n)) &&& 15#32 = (w >>> (4 * n)) &&& 15#32 := by
  apply BitVec.eq_of_getLsbD_eq
  intro i hi
  have h15 : (15#32).getLsbD i = decide (i < 4) := by interval_cases i <;> rfl
  rw [BitVec.getLsbD_and, BitVec.getLsbD_and, h15, BitVec.getLsbD_ushiftRight, BitVec.getLsbD_sshiftRight]
  by_cases h4 : i < 4
  · have : 4 * n + i < 32 := by omega
    simp [h4, hi, this]
  · simp [h4]

end Cert.Result
-- ==== Proof.Word.lean ====
/-
  The kernel's decoding of the packed weights, word by word.

  A 32-bit word packs eight 4-bit codes. The kernel takes a 16-bit half of each word, reads two rows of halves as one
  32-bit word, moves code `n` of each half to bits 3 to 6 of its half, and sets the half's other bits to those of 0x4180, the
  bf16 number 16. Read as bf16 the half is 16 + code, so subtracting 16 leaves the code itself.
-/
module

public import proofs.«01_k».proof.Proof.Result
public import proofs.«01_k».proof.Proof.Gen.KernelIdeal.Frame
public import Idealize.ShloMosaic.Lib.BitcastPair
public import Idealize.ShloMosaic.Lib.ValueIdxCore
public import Idealize.ShloMosaic.PureOps.Ideal.Laws

@[expose] public section

set_option maxRecDepth 16384

noncomputable section

namespace Cert.KernelIdeal.Word

open Cert.Result Cert.KernelIdeal Cert.KernelIdeal.Gen Idealize.ShloMosaic Idealize.ShloMosaic.ValueIdx

/-! ## One half word -/

/-- A word whose half `k` holds `c` in bits 3 to 6: masked, and the other bits set to those of 0x4180. -/
theorem half_bits (s : BitVec 32) (c : BitVec 4) (k : ℕ) (hk : k < 2)
    (hs : ∀ i, i < 4 → s.getLsbD (16 * k + 3 + i) = c.getLsbD i) :
    ((s &&& 7864440#32) ||| 1098924416#32).extractLsb' (16 * k) 16 = 0x4180#16 ||| (c.setWidth 16 <<< 3) := by
  have h0 := hs 0 (by omega)
  have h1 := hs 1 (by omega)
  have h2 := hs 2 (by omega)
  have h3 := hs 3 (by omega)
  apply BitVec.eq_of_getLsbD_eq
  intro i hi
  interval_cases k <;> interval_cases i <;>
    simp_all [BitVec.getLsbD_extractLsb', BitVec.getLsbD_or, BitVec.getLsbD_and, BitVec.getLsbD_shiftLeft]

/-- Read as bf16, a half word with code `c` in bits 3 to 6 is 16 + c. -/
theorem half_float (c : BitVec 4) :
    Ideal.ofBits .bf16 (0x4180#16 ||| (c.setWidth 16 <<< 3)) = ((16 + c.toNat : ℝ) : EReal) := by
  have hc : c = BitVec.ofNat 4 c.toNat := by simp
  have hlt : c.toNat < 16 := c.isLt
  generalize c.toNat = n at hc hlt
  subst hc
  show Ideal.ieee 8 7 _ = _
  unfold Ideal.ieee
  interval_cases n <;>
    (rw [if_neg (by decide), if_neg (by decide)]; refine congrArg Real.toEReal ?_; simp; try norm_num)

/-- Less 16 it is the code. -/
theorem half_value (c : BitVec 4) :
    (Ideal.ofBits .bf16 (0x4180#16 ||| (c.setWidth 16 <<< 3)) : EReal) - Ideal.ofBits .bf16 0x4180#16 = num c := by
  have h0 : Ideal.ofBits .bf16 0x4180#16 = ((16 + (0#4).toNat : ℝ) : EReal) := half_float 0#4
  rw [half_float, h0]
  refine (EReal.coe_sub _ _).symm.trans (congrArg Real.toEReal ?_)
  simp

/-! ## Whole arrays -/

/-- The row a word of a two-axis array lies in is its first coordinate. -/
theorem row_ix2 {m n : ℕ} (r : Fin m) (l : Fin n) : Shape.row (⟨2, ![m, n]⟩ : Shape) (ix2 r l) = r.val := rfl

/-- Half words read in pairs: the place a pair's half comes from. -/
theorem src_pair (p : ℕ) (r : Fin 2048) (l : Fin 128) (q : Fin 4096) (hq : q.val = p)
    (hp : ∀ a : Fin S4096x128.rank, a.val + 2 = S4096x128.rank → p < S4096x128.size a) :
    Shape.Bitcasts.srcIdx bitcasts_S4096x128_w16_S2048x128_w32 (ix2 r l) p hp = ix2 q l := by
  funext a
  apply Fin.ext
  match a with
  | ⟨0, _⟩ => exact (Shape.Bitcasts.srcIdx_row _ _ _ _ _ rfl).trans hq.symm
  | ⟨1, _⟩ => exact Shape.Bitcasts.srcIdx_other _ _ _ _ _ (by show ¬(1 + 2 = 2); decide)

/-- Words read as half words: the place a half word comes from. -/
theorem src_half (p : ℕ) (r : Fin 4096) (l : Fin 128) (q : Fin 2048) (hq : q.val = p)
    (hp : ∀ a : Fin S2048x128.rank, a.val + 2 = S2048x128.rank → p < S2048x128.size a) :
    Shape.Bitcasts.srcIdx bitcasts_S2048x128_w32_S4096x128_w16 (ix2 r l) p hp = ix2 q l := by
  funext a
  apply Fin.ext
  match a with
  | ⟨0, _⟩ => exact (Shape.Bitcasts.srcIdx_row _ _ _ _ _ rfl).trans hq.symm
  | ⟨1, _⟩ => exact Shape.Bitcasts.srcIdx_other _ _ _ _ _ (by show ¬(1 + 2 = 2); decide)

/-- The row of the pair that row `r` belongs to. -/
def pairRow (r : Fin 4096) : Fin 2048 := ⟨r.val / 2, by omega⟩

/-- Half words read in pairs: half `r mod 2` of the pair over row `r` is row `r`'s own half word. -/
theorem pair_bits (x : IVec S4096x128 16) (r : Fin 4096) (l : Fin 128) (i : ℕ) (hi : i < 16) :
    (bitcast S2048x128 32 x bitcasts_S4096x128_w16_S2048x128_w32 (ix2 (pairRow r) l)).getLsbD (16 * (r.val % 2) + i)
      = (x (ix2 r l)).getLsbD i := by
  rw [bitcast_16_32, BitVec.getLsbD_append]
  rcases Nat.mod_two_eq_zero_or_one r.val with h | h
  · rw [if_pos (by omega), src_pair _ _ _ r (by rw [row_ix2]; show r.val = 2 * (r.val / 2); omega), h]
    simp
  · rw [if_neg (by omega), src_pair _ _ _ r (by rw [row_ix2]; show r.val = 2 * (r.val / 2) + 1; omega), h]
    congr 1
    omega

/-- What the kernel decodes from an array of half words: the codes, given a word array `s` that holds code `n` of each
    half in bits 3 to 6 of that half. -/
theorem decode_apply (x : IVec S4096x128 16) (n : ℕ) (hn : n < 4) (s : IVec S2048x128 32)
    (hs : ∀ j k i, k < 2 → i < 4 → (s j).getLsbD (16 * k + 3 + i)
      = (bitcast S2048x128 32 x bitcasts_S4096x128_w16_S2048x128_w32 j).getLsbD (16 * k + (4 * n + i)))
    (r : Fin 4096) (l : Fin 128) :
    subf (F := Ideal) (bitcastToFloat .bf16 (bitcast S4096x128 16
          (ori (andi s (broadcast S2048x128 7864440#32)) (broadcast S2048x128 1098924416#32))
          bitcasts_S2048x128_w32_S4096x128_w16)) (broadcast S4096x128 (Scalar.ofBits .bf16 0x4180#16)) (ix2 r l)
      = num ((x (ix2 r l)).extractLsb' (4 * n) 4) := by
  rw [← half_value]
  show (Ideal.ofBits .bf16 (bitcast S4096x128 16 _ bitcasts_S2048x128_w32_S4096x128_w16 (ix2 r l)) : EReal)
    - Ideal.ofBits .bf16 0x4180#16 = _
  rw [bitcast_32_16, src_half _ _ _ (pairRow r) (by rw [row_ix2]; rfl), row_ix2]
  refine congrArg (fun b => (Ideal.ofBits .bf16 b : EReal) - Ideal.ofBits .bf16 0x4180#16) ?_
  refine half_bits (s (ix2 (pairRow r) l)) _ _ (by omega) fun i hi => ?_
  rw [hs _ _ _ (by omega) hi, pair_bits x r l (4 * n + i) (by omega), BitVec.getLsbD_extractLsb']
  simp [hi]

/-! ## The four shifts -/

section
variable (x : IVec S4096x128 16) (r : Fin 4096) (l : Fin 128)

/-- What the kernel decodes from moved pairs of half words. -/
abbrev decoded (s : IVec S2048x128 32) : FVec Ideal S4096x128 .bf16 :=
  subf (bitcastToFloat .bf16 (bitcast S4096x128 16
      (ori (andi s (broadcast S2048x128 7864440#32)) (broadcast S2048x128 1098924416#32))
      bitcasts_S2048x128_w32_S4096x128_w16)) (broadcast S4096x128 (Scalar.ofBits .bf16 0x4180#16))

/-- Half words read in pairs. -/
abbrev pairs (x : IVec S4096x128 16) : IVec S2048x128 32 := bitcast S2048x128 32 x bitcasts_S4096x128_w16_S2048x128_w32

/-- Moved left by three, code 0 is decoded. -/
theorem decode_left :
    decoded (shli (pairs x) (broadcast S2048x128 3#32)) (ix2 r l) = num ((x (ix2 r l)).extractLsb' 0 4) := by
  refine decode_apply x 0 (by omega) _ (fun j k i hk hi => ?_) r l
  show (IntOp.shli .vector (pairs x j) 3#32).getLsbD _ = (pairs x j).getLsbD _
  generalize pairs x j = v
  rw [show IntOp.shli .vector v 3#32 = v <<< 3 from rfl, BitVec.getLsbD_shiftLeft]
  rw [show 16 * k + 3 + i - 3 = 16 * k + (4 * 0 + i) by omega]
  have h1 : 16 * k + 3 + i < 32 := by omega
  simp [h1]
  omega

/-- Moved right by `4 n - 3`, code `n` is decoded. -/
theorem decode_right (n : ℕ) (hn : n < 4) (d : ℕ) (hd : d + 3 = 4 * n) (s : IVec S2048x128 32)
    (hs : ∀ j, s j = pairs x j >>> d) :
    decoded s (ix2 r l) = num ((x (ix2 r l)).extractLsb' (4 * n) 4) := by
  refine decode_apply x n hn _ (fun j k i hk hi => ?_) r l
  rw [hs, BitVec.getLsbD_ushiftRight]
  congr 1
  omega

end

/-! ## The two halves of a packed word -/

/-- Code `n < 4` of a word is code `n` of its low half. -/
theorem code_low (w : BitVec 32) (n : ℕ) (hn : n < 4) : (w.setWidth 16).extractLsb' (4 * n) 4 = code n w := by
  apply BitVec.eq_of_getLsbD_eq
  intro i hi
  simp only [code, BitVec.getLsbD_extractLsb', BitVec.getLsbD_setWidth]
  have : 4 * n + i < 16 := by omega
  simp [this]

/-- Code `n + 4` of a word is code `n` of its high half. -/
theorem code_high (w : BitVec 32) (n : ℕ) (hn : n < 4) :
    ((w >>> 16).setWidth 16).extractLsb' (4 * n) 4 = code (n + 4) w := by
  apply BitVec.eq_of_getLsbD_eq
  intro i hi
  simp only [code, BitVec.getLsbD_extractLsb', BitVec.getLsbD_setWidth, BitVec.getLsbD_ushiftRight]
  have : 4 * n + i < 16 := by omega
  rw [show 4 * (n + 4) + i = 16 + (4 * n + i) by omega]
  simp [this]

end Cert.KernelIdeal.Word
-- ==== Proof.Plane.lean ====
/-
  The planes of a block over the extended reals: plane `j` holds at row `r` and lane `l`

    (Σ_k x[r, k] · code(weights[k, l]) − rowsum[r, l] · code(zeros[l])) · scales[j, l],

  where `code` is the code of the packed word in nibble `nibble j`. `nibble` is the AWQ order 0 4 1 5 2 6 3 7.
-/
module

public import proofs.«01_k».proof.Proof.Body
public import proofs.«01_k».proof.Proof.Word
public import Idealize.ShloMosaic.Lib.MatmulPlain
public import Idealize.ShloMosaic.Lib.ValueLayout
public import Idealize.ShloMosaic.Lib.ValueLayoutCasts

@[expose] public section

set_option maxRecDepth 16384

noncomputable section

namespace Cert.KernelIdeal.Plane

open Cert.Result Cert.KernelIdeal Cert.KernelIdeal.Gen Cert.KernelIdeal.Body Cert.KernelIdeal.Word
open Idealize.ShloMosaic Idealize.ShloMosaic.ValueIdx
open scoped BigOperators

/-- The value of plane `j` at row `r` and lane `l`. -/
def value (x0 : Vec Ideal S192x4096 .bf16) (x1 : Vec Ideal S4096x128 .i32) (x2 : Vec Ideal S1x1x128 .i32)
    (x3 : Vec Ideal S1x8x128 .f32) (xs : Vec Ideal S192x128 .f32) (j : Fin 8) (r : Fin 192) (l : Fin 128) : EReal :=
  ((∑ k : Fin 4096, (x0 (ix2 r k) : EReal) * num (code (nibble j) (x1 (ix2 k l))))
      - (xs (ix2 r l) : EReal) * num (code (nibble j) (x2 (ix3 (0 : Fin 1) (0 : Fin 1) l))))
    * (x3 (ix3 (0 : Fin 1) j l) : EReal)

/-! ## The steps every plane takes -/

/-- The product of `x` with two blocks of codes side by side. -/
abbrev product (x0 : Vec Ideal S192x4096 .bf16) (a b : FVec Ideal S4096x128 .bf16) : FVec Ideal S192x256 .f32 :=
  matmul (φ₁ := .bf16) (φ₂ := .bf16) dot_S192x4096_S4096x256_S192x256_1_0_0_1_n_n none (shapeCast S192x4096 x0 shapeCasts_S192x4096_S192x4096)
    (concatenate S4096x256 1 [⟨S4096x128, a⟩, ⟨S4096x128, b⟩] concatenates_S4096x128_S4096x128_S4096x256_d1)
    (constant S192x256 .f32 0x00000000#32)

/-- The product at row `r` and column `c`. -/
theorem product_apply (x0 : Vec Ideal S192x4096 .bf16) (a b : FVec Ideal S4096x128 .bf16) (r : Fin 192) (c : Fin 256) :
    product x0 a b (ix2 r c) = ∑ k : Fin 4096, (x0 (ix2 r k) : EReal)
      * concatenate S4096x256 1 [⟨S4096x128, a⟩, ⟨S4096x128, b⟩] concatenates_S4096x128_S4096x128_S4096x256_d1 (ix2 k c) := by
  rw [product, shapeCast_self]
  refine (Ideal.matmul_plain_apply (M := 192) (K := 4096) (N := 256) none _ _ _ r c).trans ?_
  rw [show (constant (F := Ideal) S192x256 .f32 0x00000000#32 (ix2 r c) : EReal) = 0 from Ideal.ofBits_zero_f32, zero_add]

/-- The product's first 128 columns are over the first block. -/
theorem product_left (x0 : Vec Ideal S192x4096 .bf16) (a b : FVec Ideal S4096x128 .bf16) (r : Fin 192) (l : Fin 128) :
    extractStridedSlice S192x128 ![0, 0] (product x0 a b) slices_S192x256_o0_0_S192x128 (ix2 r l)
      = ∑ k : Fin 4096, (x0 (ix2 r k) : EReal) * a (ix2 k l) := by
  have e : extractStridedSlice S192x128 ![0, 0] (product x0 a b) slices_S192x256_o0_0_S192x128 (ix2 r l)
      = product x0 a b (ix2 r (⟨l.val, by omega⟩ : Fin 256)) :=
    congrArg (product x0 a b) (funext fun d => Fin.ext (by
      match d with
      | ⟨0, _⟩ => show 0 + r.val = r.val; omega
      | ⟨1, _⟩ => show 0 + l.val = l.val; omega))
  rw [e, product_apply]
  refine Finset.sum_congr rfl fun k _ => congrArg (_ * ·) ?_
  exact concatenate_pair_apply_left (t := S4096x256) 1 a b concatenates_S4096x128_S4096x128_S4096x256_d1 _ rfl (ix2 k l) (fun d => by
    match d with
    | ⟨0, _⟩ => rfl
    | ⟨1, _⟩ => rfl)

/-- The product's last 128 columns are over the second block. -/
theorem product_right (x0 : Vec Ideal S192x4096 .bf16) (a b : FVec Ideal S4096x128 .bf16) (r : Fin 192) (l : Fin 128) :
    extractStridedSlice S192x128 ![0, 128] (product x0 a b) slices_S192x256_o0_128_S192x128 (ix2 r l)
      = ∑ k : Fin 4096, (x0 (ix2 r k) : EReal) * b (ix2 k l) := by
  have e : extractStridedSlice S192x128 ![0, 128] (product x0 a b) slices_S192x256_o0_128_S192x128 (ix2 r l)
      = product x0 a b (ix2 r (⟨128 + l.val, by omega⟩ : Fin 256)) :=
    congrArg (product x0 a b) (funext fun d => Fin.ext (by
      match d with
      | ⟨0, _⟩ => show 0 + r.val = r.val; omega
      | ⟨1, _⟩ => rfl))
  rw [e, product_apply]
  refine Finset.sum_congr rfl fun k _ => congrArg (_ * ·) ?_
  exact concatenate_pair_apply_right (t := S4096x256) 1 a b concatenates_S4096x128_S4096x128_S4096x256_d1 _ rfl rfl (ix2 k l) (fun d hd => by
    match d with
    | ⟨0, _⟩ => rfl
    | ⟨1, _⟩ => exact absurd rfl hd) (by show l.val + 128 = 128 + l.val; omega)

/-- The zero points' codes, from the packed zero points moved right by `d`. -/
abbrev zeros (x2 : Vec Ideal S1x1x128 .i32) (d : BitVec 32) : FVec Ideal S1x128 .f32 :=
  sitofp .f32 (andi (shrui (shapeCast S1x128 x2 shapeCasts_S1x1x128_S1x128) (broadcast S1x128 d)) (broadcast S1x128 15#32))

/-- Moved right by `4 n`, they are the codes in nibble `n`. -/
theorem zeros_apply (x2 : Vec Ideal S1x1x128 .i32) (n : ℕ) (hn : n < 8) (l : Fin 128) :
    zeros x2 (BitVec.ofNat 32 (4 * n)) (ix2 (0 : Fin 1) l) = num (code n (x2 (ix3 (0 : Fin 1) (0 : Fin 1) l))) := by
  show (((IntOp.shrui .vector (shapeCast S1x128 x2 shapeCasts_S1x1x128_S1x128 (ix2 (0 : Fin 1) l)) (BitVec.ofNat 32 (4 * n))
    &&& 15#32).toInt : ℝ) : EReal) = _
  rw [shapeCast_1ab_ab_apply (a := 1) (b := 128) x2 _ 0 l]
  have e : (BitVec.ofNat 32 (4 * n)).toNat = 4 * n := by simp; omega
  rw [IntOp.shrui, if_pos (by omega), BitVec.ushiftRight_eq', e, masked]
  rfl

/-- The end of every plane: from the products `m`, the row sums, the zero points' codes and a row of scales. -/
theorem finish (m xs : FVec Ideal S192x128 .f32) (z : FVec Ideal S1x128 .f32) (x3 : Vec Ideal S1x8x128 .f32) (j : Fin 8)
    (h : ∀ a, (![0, j.val, 0] : Fin 3 → ℕ) a + (![1, 1, 128] : Fin 3 → ℕ) a ≤ S1x8x128.size a)
    (r : Fin 192) (l : Fin 128) :
    mulf (subf m (mulf xs (broadcastTo S192x128 z broadcasts_S1x128_S192x128)))
        (broadcastTo S192x128 (shapeCast S1x128 (View.ld x3 (Rect.unit ![0, j.val, 0] ![1, 1, 128] h)) shapeCasts_S1x1x128_S1x128)
          broadcasts_S1x128_S192x128) (ix2 r l)
      = ((m (ix2 r l) : EReal) - (xs (ix2 r l) : EReal) * z (ix2 (0 : Fin 1) l)) * (x3 (ix3 (0 : Fin 1) j l) : EReal) := by
  have ev : broadcastTo S192x128 (shapeCast S1x128 (View.ld x3 (Rect.unit ![0, j.val, 0] ![1, 1, 128] h))
      shapeCasts_S1x1x128_S1x128) broadcasts_S1x128_S192x128 (ix2 r l) = x3 (ix3 (0 : Fin 1) j l) :=
    (broadcastTo_1b_ab_apply _ _ r l).trans <| (shapeCast_1ab_ab_apply (a := 1) (b := 128) _ _ 0 l).trans <|
      congrArg x3 (funext fun d => Fin.ext (by
        match d with
        | ⟨0, _⟩ => rfl
        | ⟨1, _⟩ => show j.val + 1 * 0 = j.val; omega
        | ⟨2, _⟩ => show 0 + 1 * l.val = l.val; omega))
  have ez : broadcastTo S192x128 z broadcasts_S1x128_S192x128 (ix2 r l) = z (ix2 (0 : Fin 1) l) :=
    broadcastTo_1b_ab_apply _ _ r l
  refine (congrArg (fun t : EReal => _ * t) ev).trans (congrArg (fun t : EReal => t * _) ?_)
  exact congrArg (fun t : EReal => (m (ix2 r l) : EReal) - (xs (ix2 r l) : EReal) * t) ez

/-! ## The codes -/

/-- The low half words of the packed weights. -/
abbrev low (x1 : Vec Ideal S4096x128 .i32) : IVec S4096x128 16 := trunci 16 x1 natLt_16_32

/-- The high half words of the packed weights. -/
abbrev high (x1 : Vec Ideal S4096x128 .i32) : IVec S4096x128 16 :=
  trunci 16 (shrui x1 (broadcast S4096x128 16#32)) natLt_16_32

section
variable (x1 : Vec Ideal S4096x128 .i32) (k : Fin 4096) (l : Fin 128)

/-- Code `n < 4` of a word, from the low half words. -/
theorem low_code (n : ℕ) (hn : n < 4) : (low x1 (ix2 k l)).extractLsb' (4 * n) 4 = code n (x1 (ix2 k l)) :=
  code_low _ n hn

/-- Code `n + 4` of a word, from the high half words. -/
theorem high_code (n : ℕ) (hn : n < 4) : (high x1 (ix2 k l)).extractLsb' (4 * n) 4 = code (n + 4) (x1 (ix2 k l)) :=
  code_high _ n hn

/-- Code 0 of half words `x`, decoded from their pairs. -/
theorem decoded_0 (x : IVec S4096x128 16) : decoded (shli (pairs x) (broadcast S2048x128 3#32)) (ix2 k l)
    = num ((x (ix2 k l)).extractLsb' (4 * 0) 4) := decode_left x k l
/-- Code 1 of half words `x`, decoded from their pairs. -/
theorem decoded_1 (x : IVec S4096x128 16) : decoded (shrui (pairs x) (broadcast S2048x128 1#32)) (ix2 k l)
    = num ((x (ix2 k l)).extractLsb' (4 * 1) 4) := decode_right x k l 1 (by omega) 1 rfl _ fun _ => rfl
/-- Code 2 of half words `x`, decoded from their pairs. -/
theorem decoded_2 (x : IVec S4096x128 16) : decoded (shrui (pairs x) (broadcast S2048x128 5#32)) (ix2 k l)
    = num ((x (ix2 k l)).extractLsb' (4 * 2) 4) := decode_right x k l 2 (by omega) 5 rfl _ fun _ => rfl
/-- Code 3 of half words `x`, decoded from their pairs. -/
theorem decoded_3 (x : IVec S4096x128 16) : decoded (shrui (pairs x) (broadcast S2048x128 9#32)) (ix2 k l)
    = num ((x (ix2 k l)).extractLsb' (4 * 3) 4) := decode_right x k l 3 (by omega) 9 rfl _ fun _ => rfl

end

/-! ## The eight planes -/

section
variable (x0 : Vec Ideal S192x4096 .bf16) (x1 : Vec Ideal S4096x128 .i32) (x2 : Vec Ideal S1x1x128 .i32)
  (x3 : Vec Ideal S1x8x128 .f32) (xs : Vec Ideal S192x128 .f32) (r : Fin 192) (l : Fin 128)

/-- A plane over the first of two blocks of codes. -/
theorem plane_left (a b : FVec Ideal S4096x128 .bf16) (j : Fin 8) (n : ℕ) (hn : n < 8) (hj : nibble j = n)
    (ha : ∀ k, a (ix2 k l) = num (code n (x1 (ix2 k l))))
    (h : ∀ a, (![0, j.val, 0] : Fin 3 → ℕ) a + (![1, 1, 128] : Fin 3 → ℕ) a ≤ S1x8x128.size a) :
    mulf (subf (extractStridedSlice S192x128 ![0, 0] (product x0 a b) slices_S192x256_o0_0_S192x128)
          (mulf xs (broadcastTo S192x128 (zeros x2 (BitVec.ofNat 32 (4 * n))) broadcasts_S1x128_S192x128)))
        (broadcastTo S192x128 (shapeCast S1x128 (View.ld x3 (Rect.unit ![0, j.val, 0] ![1, 1, 128] h)) shapeCasts_S1x1x128_S1x128)
          broadcasts_S1x128_S192x128) (ix2 r l)
      = value x0 x1 x2 x3 xs j r l := by
  rw [finish, product_left, zeros_apply x2 n hn, value, hj]
  simp only [ha]

/-- A plane over the second of two blocks of codes. -/
theorem plane_right (a b : FVec Ideal S4096x128 .bf16) (j : Fin 8) (n : ℕ) (hn : n < 8) (hj : nibble j = n)
    (hb : ∀ k, b (ix2 k l) = num (code n (x1 (ix2 k l))))
    (h : ∀ a, (![0, j.val, 0] : Fin 3 → ℕ) a + (![1, 1, 128] : Fin 3 → ℕ) a ≤ S1x8x128.size a) :
    mulf (subf (extractStridedSlice S192x128 ![0, 128] (product x0 a b) slices_S192x256_o0_128_S192x128)
          (mulf xs (broadcastTo S192x128 (zeros x2 (BitVec.ofNat 32 (4 * n))) broadcasts_S1x128_S192x128)))
        (broadcastTo S192x128 (shapeCast S1x128 (View.ld x3 (Rect.unit ![0, j.val, 0] ![1, 1, 128] h)) shapeCasts_S1x1x128_S1x128)
          broadcasts_S1x128_S192x128) (ix2 r l)
      = value x0 x1 x2 x3 xs j r l := by
  rw [finish, product_right, zeros_apply x2 n hn, value, hj]
  simp only [hb]

/-- Plane `j` of a block is `value j`. -/
theorem plane_apply (j : Fin 8) : plane x0 x1 x2 x3 xs j (ix2 r l) = value x0 x1 x2 x3 xs j r l := by
  match j with
  | ⟨0, _⟩ =>
    exact plane_left x0 x1 x2 x3 xs r l _ _ 0 0 (by omega) rfl
      (fun k => (decoded_0 k l (low x1)).trans (congrArg num (low_code x1 k l 0 (by omega)))) _
  | ⟨1, _⟩ =>
    exact plane_left x0 x1 x2 x3 xs r l _ _ 1 4 (by omega) rfl
      (fun k => (decoded_0 k l (high x1)).trans (congrArg num (high_code x1 k l 0 (by omega)))) _
  | ⟨2, _⟩ =>
    exact plane_right x0 x1 x2 x3 xs r l _ _ 2 1 (by omega) rfl
      (fun k => (decoded_1 k l (low x1)).trans (congrArg num (low_code x1 k l 1 (by omega)))) _
  | ⟨3, _⟩ =>
    exact plane_right x0 x1 x2 x3 xs r l _ _ 3 5 (by omega) rfl
      (fun k => (decoded_1 k l (high x1)).trans (congrArg num (high_code x1 k l 1 (by omega)))) _
  | ⟨4, _⟩ =>
    exact plane_left x0 x1 x2 x3 xs r l _ _ 4 2 (by omega) rfl
      (fun k => (decoded_2 k l (low x1)).trans (congrArg num (low_code x1 k l 2 (by omega)))) _
  | ⟨5, _⟩ =>
    exact plane_left x0 x1 x2 x3 xs r l _ _ 5 6 (by omega) rfl
      (fun k => (decoded_2 k l (high x1)).trans (congrArg num (high_code x1 k l 2 (by omega)))) _
  | ⟨6, _⟩ =>
    exact plane_right x0 x1 x2 x3 xs r l _ _ 6 3 (by omega) rfl
      (fun k => (decoded_3 k l (low x1)).trans (congrArg num (low_code x1 k l 3 (by omega)))) _
  | ⟨7, _⟩ =>
    exact plane_right x0 x1 x2 x3 xs r l _ _ 7 7 (by omega) rfl
      (fun k => (decoded_3 k l (high x1)).trans (congrArg num (high_code x1 k l 3 (by omega)))) _

end

/-! ## The row sums -/

/-- The row sums the first point stores: the sum of row `r` of `x`, in every lane. -/
theorem rowsum_apply (x0 : Vec Ideal S192x4096 .bf16) (r : Fin 192) (l : Fin 128) :
    (k0_pay6 x0 (ix2 r l) : EReal) = ∑ k : Fin 4096, (x0 (ix2 r k) : EReal) := by
  unfold k0_pay6
  simp only [shapeCast_self]
  refine (broadcastTo_apply _ broadcasts_S192x1_S192x128 (ix2 r l) (ix2 r (0 : Fin 1)) (fun d => by
    match d with
    | ⟨0, _⟩ => rfl
    | ⟨1, _⟩ => rfl)).trans ?_
  refine (shapeCast_a_a1_apply (a := 192) _ shapeCasts_S192_S192x1 r 0).trans ?_
  refine (Ideal.multiReduction_add_single (s := S192x4096) (t := S192) (a := 1) _ _ _ _ _ (ix1 r)).trans ?_
  refine Finset.sum_congr rfl fun k _ => ?_
  refine congrArg x0 (funext fun d => Fin.ext ?_)
  match d with
  | ⟨0, _⟩ => rfl
  | ⟨1, _⟩ => rfl

end Cert.KernelIdeal.Plane
-- ==== Proof.Array.lean ====
/-
  The kernel's result array over the extended reals.

  The row sums that point 0 stores are what every point reads (`scratch`), so point `t` leaves the block over its own
  input blocks and the sums (`outs`). The blocks of the arguments at point `t` are read at coordinates, and the fourteen
  blocks of 1024 columns make up the array: at row `r` and column `c` it holds `result … r c`.
-/
module

public import proofs.«01_k».proof.Proof.Plane
public import Idealize.ShloMosaic.Lib.Pipeline.ValueKit.Geometry
public import Idealize.ShloMosaic.Lib.Tactic

@[expose] public section

set_option maxRecDepth 16384

noncomputable section

namespace Cert.KernelIdeal.Array

open Cert.Result Cert.KernelIdeal Cert.KernelIdeal.Gen Cert.KernelIdeal.Body Cert.KernelIdeal.Plane
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## The operands the host prepares -/

/-- The activations with the unit axis dropped. -/
theorem V_x (r : Fin 192) (k : Fin 4096) :
    V m c main_v0 (ix2 r k) = m ((c : Thread nD τ).loc main_arg0) (ix3 r (0 : Fin 1) k) := by
  have e : V m c main_v0 = shapeCast S192x4096 (m ((c : Thread nD τ).loc main_arg0)) shapeCasts_S192x1x4096_S192x4096 := by
    unfold V V0
    simp only [hostOps0, List.flatten_cons, List.flatten_nil, List.append_nil]
    after_results
    rfl
  rw [e]
  refine shapeCast_apply _ _ _ _ ((Shape.rowMajor_val_three (ix3 r (0 : Fin 1) k)).trans
    (Eq.trans ?_ (Shape.rowMajor_val_two (ix2 r k)).symm))
  show (r.val * 1 + 0) * 4096 + k.val = r.val * 4096 + k.val
  omega

/-- The packed zero points, 128 words to a point. -/
theorem V_zeros (t : Fin 14) (l : Fin 128) :
    V m c main_v1 (ix3 t (0 : Fin 1) l)
      = m ((c : Thread nD τ).loc main_arg2) (ix1 (⟨128 * t.val + l.val, by omega⟩ : Fin 1792)) := by
  have e : V m c main_v1 = shapeCast S14x1x128 (m ((c : Thread nD τ).loc main_arg2)) shapeCasts_S1792_S14x1x128 := by
    unfold V V0
    simp only [hostOps0, List.flatten_cons, List.flatten_nil, List.append_nil]
    after_results
    rfl
  rw [e]
  refine shapeCast_apply _ _ _ _ ((Shape.rowMajor_val_one (ix1 (⟨128 * t.val + l.val, by omega⟩ : Fin 1792))).trans
    (Eq.trans ?_ (Shape.rowMajor_val_three (ix3 t (0 : Fin 1) l)).symm))
  show 128 * t.val + l.val = (t.val * 1 + 0) * 128 + l.val
  omega

/-- The scales, one row per position in a word. -/
theorem V_scales (t : Fin 14) (j : Fin 8) (l : Fin 128) :
    (V m c main_v4 (ix3 t j l) : EReal)
      = m ((c : Thread nD τ).loc main_arg3) (ix1 (⟨1024 * t.val + (8 * l.val + j.val), by omega⟩ : Fin 14336)) := by
  have e : V m c main_v4 = transpose S14x8x128 [0, 2, 1] (shapeCast S14x128x8
      (extf (F := Ideal) .f32 (m ((c : Thread nD τ).loc main_arg3) : FVec Ideal S14336 .bf16) bitsLt_bf16_f32)
      shapeCasts_S14336_S14x128x8) transposes_S14x128x8_S14x8x128_0_2_1 := by
    unfold V V0
    simp only [hostOps0, List.flatten_cons, List.flatten_nil, List.append_nil]
    after_results
    rfl
  rw [e]
  refine (transpose_apply _ _ _ (ix3 t j l) (ix3 t l j) fun b => ?_).trans ?_
  · match b with
    | ⟨0, _⟩ => rfl
    | ⟨1, _⟩ => rfl
    | ⟨2, _⟩ => rfl
  · exact shapeCast_apply _ _ _ (ix1 (⟨1024 * t.val + (8 * l.val + j.val), by omega⟩ : Fin 14336)) (by
      rw [Shape.rowMajor_val_three, Shape.rowMajor_val_one]
      show 1024 * t.val + (8 * l.val + j.val) = (t.val * 128 + l.val) * 8 + j.val
      omega)

/-! ## The blocks at a point -/

/-- Point `t` as a number below fourteen. -/
def pt (t : Fin cfg0.N) : Fin 14 := ⟨t.val, lt_of_lt_of_eq t.isLt N_0⟩

/-- The activations are one block, the same at every point. -/
theorem index_0 : ∀ t : Fin cfg0.N, win0_0.index t = ![0, 0] := (by decide +kernel : ∀ t : Fin grid0.N, _)
/-- Point `t` reads block `t` along the word columns of the weights. -/
theorem index_1 : ∀ t : Fin cfg0.N, win0_1.index t = ![0, t.val] := (by decide +kernel : ∀ t : Fin grid0.N, _)
/-- Point `t` reads zero-point block `t`. -/
theorem index_2 : ∀ t : Fin cfg0.N, win0_2.index t = ![t.val, 0, 0] := (by decide +kernel : ∀ t : Fin grid0.N, _)
/-- Point `t` reads scale block `t`. -/
theorem index_3 : ∀ t : Fin cfg0.N, win0_3.index t = ![t.val, 0, 0] := (by decide +kernel : ∀ t : Fin grid0.N, _)
/-- Point `t` writes block `t` along the columns of the result. -/
theorem index_4 : ∀ t : Fin cfg0.N, win0_4.index t = ![0, t.val] := (by decide +kernel : ∀ t : Fin grid0.N, _)

/-- Every point's block of the activations is all of them. -/
theorem block_x (t : Fin cfg0.N) (r : Fin 192) (k : Fin 4096) :
    (iblk m c 0 t : Vec Ideal S192x4096 .bf16) (ix2 r k) = m ((c : Thread nD τ).loc main_arg0) (ix3 r (0 : Fin 1) k) := by
  rw [← V_x m c r k]
  unfold iblk
  rw [View.read_apply]
  show V m c main_v0 _ = V m c main_v0 _
  refine congrArg (V m c main_v0) (funext fun a => Fin.ext ?_)
  match a with
  | ⟨0, _⟩ => show win0_0.index t 0 * 192 + 1 * r.val = r.val; rw [index_0]; simp
  | ⟨1, _⟩ => show win0_0.index t 1 * 4096 + 1 * k.val = k.val; rw [index_0]; simp

/-- Point `t`'s block of the packed weights is word columns `128 t` to `128 t + 127`. -/
theorem block_w (t : Fin cfg0.N) (k : Fin 4096) (l : Fin 128) :
    (iblk m c 1 t : Vec Ideal S4096x128 .i32) (ix2 k l)
      = m ((c : Thread nD τ).loc main_arg1) (ix2 k (⟨128 * (pt t).val + l.val, by omega⟩ : Fin 1792)) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 4096 + 1 * k.val = k.val; rw [index_1]; simp
  | ⟨1, _⟩ =>
    show win0_1.index t 1 * 128 + 1 * l.val = 128 * t.val + l.val
    rw [index_1]
    show t.val * 128 + 1 * l.val = _
    omega

/-- Point `t`'s block of the packed zero points likewise. -/
theorem block_z (t : Fin cfg0.N) (l : Fin 128) :
    (iblk m c 2 t : Vec Ideal S1x1x128 .i32) (ix3 (0 : Fin 1) (0 : Fin 1) l)
      = m ((c : Thread nD τ).loc main_arg2) (ix1 (⟨128 * (pt t).val + l.val, by omega⟩ : Fin 1792)) := by
  rw [← V_zeros m c (pt t) l]
  unfold iblk
  rw [View.read_apply]
  show V m c main_v1 _ = V m c main_v1 _
  refine congrArg (V m c main_v1) (funext fun a => Fin.ext ?_)
  match a with
  | ⟨0, _⟩ => show win0_2.index t 0 * 1 + 1 * 0 = t.val; rw [index_2]; simp
  | ⟨1, _⟩ => show win0_2.index t 1 * 1 + 1 * 0 = 0; rw [index_2]; simp
  | ⟨2, _⟩ => show win0_2.index t 2 * 128 + 1 * l.val = l.val; rw [index_2]; simp

/-- Point `t`'s block of the scales holds, in row `j` and lane `l`, the scale of column `8 l + j` of the point. -/
theorem block_s (t : Fin cfg0.N) (j : Fin 8) (l : Fin 128) :
    ((iblk m c 3 t : Vec Ideal S1x8x128 .f32) (ix3 (0 : Fin 1) j l) : EReal)
      = m ((c : Thread nD τ).loc main_arg3) (ix1 (⟨1024 * (pt t).val + (8 * l.val + j.val), by omega⟩ : Fin 14336)) := by
  rw [← V_scales m c (pt t) j l]
  unfold iblk
  rw [View.read_apply]
  show V m c main_v4 _ = V m c main_v4 _
  refine congrArg (V m c main_v4) (funext fun a => Fin.ext ?_)
  match a with
  | ⟨0, _⟩ => show win0_3.index t 0 * 1 + 1 * 0 = t.val; rw [index_3]; simp
  | ⟨1, _⟩ => show win0_3.index t 1 * 8 + 1 * j.val = j.val; rw [index_3]; simp
  | ⟨2, _⟩ => show win0_3.index t 2 * 128 + 1 * l.val = l.val; rw [index_3]; simp

/-! ## What each point leaves -/

/-- The blocks of the activations at two points are the same. -/
theorem block_x_eq (t t' : Fin cfg0.N) : (iblk m c 0 t : Vec Ideal S192x4096 .bf16) = iblk m c 0 t' := by
  funext i
  have h := (block_x m c t (i 0) (i 1)).trans (block_x m c t' (i 0) (i 1)).symm
  exact ((congrArg (iblk m c 0 t : Vec Ideal S192x4096 .bf16) (eq_ix2 i)).trans h).trans
    (congrArg (iblk m c 0 t' : Vec Ideal S192x4096 .bf16) (eq_ix2 i)).symm

/-- After every point the scratch buffer holds the row sums of the activations. -/
theorem scratch : ∀ (n : ℕ) (h : n < cfg0.N), (outsAt0 m c n h).2 = k0_pay6 (iblk m c 0 ⟨n, h⟩)
  | 0, h => by
    refine (congrArg Prod.snd (outsAt0_A m c ⟨0, h⟩ rfl)).trans ?_
    dsimp only
    rw [sout_A]
  | n + 1, h => by
    have hN : cfg0.N = 14 := N_0
    have hB : ¬(⟨n + 1, h⟩ : Fin cfg0.N).val % 14 = 0 := by dsimp only; omega
    refine (congrArg Prod.snd (outsAt0_B m c ⟨n + 1, h⟩ hB)).trans ?_
    dsimp only
    rw [sout_B]
    exact (scratch n _).trans (congrArg k0_pay6 (block_x_eq m c _ _))

/-- Point `t` leaves the block over its input blocks and the row sums of the activations. -/
theorem outs (t : Fin cfg0.N) : (outsAt0 m c t.val t.isLt).1
    = block (iblk m c 0 t) (iblk m c 1 t) (iblk m c 2 t) (iblk m c 3 t) (k0_pay6 (iblk m c 0 t)) := by
  by_cases h0 : t.val % 14 = 0
  · refine (congrArg Prod.fst (outsAt0_A m c t h0)).trans ?_
    dsimp only
    rw [out_A]
  · refine (congrArg Prod.fst (outsAt0_B m c t h0)).trans ?_
    dsimp only
    rw [out_B, scratch, block_x_eq m c ⟨t.val - 1, _⟩ t]

/-- The result array: `result` of the arguments. -/
def array : Buf (Elt Ideal) ((c : Thread nD τ).loc main_v5) := fun i : S192x14336.Idx =>
  result (m ((c : Thread nD τ).loc main_arg0)) (m ((c : Thread nD τ).loc main_arg1)) (m ((c : Thread nD τ).loc main_arg2))
    (m ((c : Thread nD τ).loc main_arg3)) (i 0) (i 1)

/-- The block point `t` leaves is columns `1024 t` to `1024 t + 1023` of `result`. -/
theorem block_apply (t : Fin cfg0.N) (r : Fin 192) (p : Fin 1024) :
    (block (iblk m c 0 t) (iblk m c 1 t) (iblk m c 2 t) (iblk m c 3 t) (k0_pay6 (iblk m c 0 t)) (ix2 r p) : EReal)
      = result (m ((c : Thread nD τ).loc main_arg0)) (m ((c : Thread nD τ).loc main_arg1)) (m ((c : Thread nD τ).loc main_arg2))
          (m ((c : Thread nD τ).loc main_arg3)) r ⟨1024 * (pt t).val + p.val, by omega⟩ := by
  refine (plane_apply (iblk m c 0 t) (iblk m c 1 t) (iblk m c 2 t) (iblk m c 3 t) (k0_pay6 (iblk m c 0 t)) r
    ⟨p.val / 8, by omega⟩ ⟨p.val % 8, by omega⟩).trans ?_
  have ej : (⟨(1024 * (pt t).val + p.val) % 8, by omega⟩ : Fin 8) = ⟨p.val % 8, by omega⟩ := Fin.ext (by
    show (1024 * (pt t).val + p.val) % 8 = p.val % 8; omega)
  have ew : (⟨(1024 * (pt t).val + p.val) / 8, by omega⟩ : Fin 1792) = ⟨128 * (pt t).val + p.val / 8, by omega⟩ := Fin.ext (by
    show (1024 * (pt t).val + p.val) / 8 = 128 * (pt t).val + p.val / 8; omega)
  have es : (⟨1024 * (pt t).val + p.val, by omega⟩ : Fin 14336)
      = ⟨1024 * (pt t).val + (8 * (p.val / 8) + p.val % 8), by omega⟩ := Fin.ext (by
    show 1024 * (pt t).val + p.val = 1024 * (pt t).val + (8 * (p.val / 8) + p.val % 8); omega)
  unfold value result
  simp only [ej, ew]
  rw [rowsum_apply, block_z, block_s, es]
  simp only [block_x, block_w]

/-- After the run the array holds `result`. -/
theorem final : (dats m 0 c).arrAt 4 cfg0.N = array m c := by
  refine (dats m 0 c).arrAt_eq_of_covers 4 _ (by decide +kernel) fun t hf y => ?_
  blk_simp
  rw [after0_4, outs]
  refine ((congrArg _ (eq_ix2 y)).trans (block_apply m c t (y 0) (y 1))).trans ?_
  have e0 : (win0_4.blk t).view.emb y 0 = y 0 := Fin.ext (by
    show win0_4.index t 0 * 192 + 1 * (y 0).val = (y 0).val
    rw [index_4]; simp)
  have e1 : (win0_4.blk t).view.emb y 1 = (⟨1024 * (pt t).val + (y 1).val, by
      have := (pt t).isLt; have : (y 1).val < 1024 := (y 1).isLt; omega⟩ : Fin 14336) := Fin.ext (by
    show win0_4.index t 1 * 1024 + 1 * (y 1).val = 1024 * t.val + (y 1).val
    rw [index_4]
    show t.val * 1024 + 1 * (y 1).val = _
    omega)
  show _ = result _ _ _ _ ((win0_4.blk t).view.emb y 0) ((win0_4.blk t).view.emb y 1)
  rw [e0, e1]

/-! ## The run -/

/-- What the result buffer ends at: the array with a unit axis put in the middle. -/
def outcome : Buf (Elt Ideal) ((c : Thread nD τ).loc main_v6) :=
  shapeCast S192x1x14336 (array m c : S192x14336.Idx → EReal) shapeCasts_S192x14336_S192x1x14336

/-- At row `r` and column `p` that is `result … r p`. -/
theorem outcome_apply (r : Fin 192) (p : Fin 14336) :
    (outcome m c (ix3 r (0 : Fin 1) p) : EReal)
      = result (m ((c : Thread nD τ).loc main_arg0)) (m ((c : Thread nD τ).loc main_arg1)) (m ((c : Thread nD τ).loc main_arg2))
          (m ((c : Thread nD τ).loc main_arg3)) r p := by
  refine (shapeCast_apply _ _ _ (ix2 r p) ((Shape.rowMajor_val_two (ix2 r p)).trans
    (Eq.trans ?_ (Shape.rowMajor_val_three (ix3 r (0 : Fin 1) p)).symm))).trans rfl
  show r.val * 14336 + p.val = (r.val * 1 + 0) * 14336 + p.val
  omega

/-- The host's last line leaves the array, with the unit axis, in the result buffer. -/
theorem tail : Pipeline.afterTail₀ cfgs (dats m) 0 (V0 m) [hostOps1] c main_v6 = outcome m c := by
  unfold Pipeline.afterTail₀
  have e := (Pipeline.withArrays_arr spec0 launch0.win.arr_inj c (V0 m c) (fun w => (dats m 0 c).arrAt w cfg0.N) 4).trans (final m c)
  simp only [hostOps1, List.flatten_cons, List.flatten_nil, List.append_nil]
  after_results
  exact congrArg (fun a : S192x14336.Idx → EReal => shapeCast S192x1x14336 a shapeCasts_S192x14336_S192x1x14336) e

/-- The run, read: the result buffer at `outcome`, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v6) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).2 main_v6 (Pipeline.mem_restRefs_of main_v6 (by decide) (by decide))).trans (tail m c), h.2 c⟩)
    (θ_run_and (run_main m ρ) (unchanged m ρ))

end Cert.KernelIdeal.Array
-- ==== Proof.Reference.lean ====
/-
  The reference's result over the extended reals: at row `r` and column `c` it is `result … r c` of the arguments.
-/
module

public import proofs.«01_k».proof.Proof.Result
public import proofs.«01_k».proof.Proof.Gen.ReferenceIdeal.Run
public import Idealize.ShloMosaic.Lib.Pipeline.Value
public import Idealize.ShloMosaic.Lib.StackMember
public import Idealize.ShloMosaic.Lib.IdealHost

@[expose] public section

set_option maxRecDepth 16384

noncomputable section

namespace Cert.ReferenceIdeal.Read

open Cert.Result Cert.ReferenceIdeal Cert.ReferenceIdeal.Gen
open Idealize.ShloMosaic Idealize.ShloMosaic.TcCoe Idealize.ShloMosaic.ValueIdx Idealize.SL.Sem
open Idealize.ShloMosaic.StackMember (dotGeneral_plain_apply)
open scoped BigOperators

/-- The shift amounts, as the reference's constant holds them. -/
abbrev shifts : Vec Ideal S8 .i32 := fun i => lit0 (S8.rowMajor i)

/-- The shift of column `j` of a word is four times its nibble. -/
theorem shifts_apply (j : Fin 8) : shifts (ix1 j) = BitVec.ofNat 32 (4 * nibble j) := by
  have e : S8.rowMajor (ix1 j) = j := Fin.ext (Shape.rowMajor_val_one (ix1 j))
  show lit0 (S8.rowMajor (ix1 j)) = _
  rw [e]
  revert j
  intro j _
  fin_cases j <;> rfl

/-- A word shifted right by its column's amount and masked, as a number: the code of that column. -/
theorem shifted (w : BitVec 32) (j : Fin 8) :
    ((((IntOp.andi (IntOp.shrsi .host w (shifts (ix1 j))) 15#32).toInt : ℝ) : ℝ) : EReal) = num (code (nibble j) w) := by
  have hn : nibble j < 8 := by fin_cases j <;> decide
  have hlt : 4 * nibble j < 32 := by omega
  have e : IntOp.shrsi .host w (shifts (ix1 j)) = w.sshiftRight (4 * nibble j) := by
    rw [shifts_apply]
    unfold IntOp.shrsi
    have hv : (BitVec.ofNat 32 (4 * nibble j)).toNat = 4 * nibble j := by
      rw [BitVec.toNat_ofNat, Nat.mod_eq_of_lt (by omega)]
    rw [if_pos (by rw [hv]; exact hlt)]
    show w.sshiftRight (BitVec.ofNat 32 (4 * nibble j)).toNat = _
    rw [hv]
  rw [e]
  show ((((w.sshiftRight (4 * nibble j) &&& 15#32).toInt : ℝ)) : EReal) = _
  rw [masked_signed w _ hn, masked]
  rfl

/-- The codes of the weights as the reference unpacks them. -/
abbrev weights (w : Vec Ideal S4096x1792 .i32) : Vec Ideal S4096x14336 .i32 :=
  shapeCast _ (andi (Host.shrsi (broadcastInDim S4096x1792x8 ![0, 1, 2] bcast_S4096x1792x1_S4096x1792x8_0_1_2 (broadcastInDim S4096x1792x1 ![0, 1] bcast_S4096x1792_S4096x1792x1_0_1 w)) (broadcastInDim S4096x1792x8 ![0, 1, 2] bcast_S1x1x8_S4096x1792x8_0_1_2 (broadcastInDim S1x1x8 ![2] bcast_S8_S1x1x8_2 shifts))) (broadcastInDim S4096x1792x8 ![] bcast_S_S4096x1792x8 (constantI S_ 32 15#32))) shapeCasts_S4096x1792x8_S4096x14336

/-- Each, as a number, is its column's code. -/
theorem weights_apply (w : Vec Ideal S4096x1792 .i32) (k : Fin 4096) (c : Fin 14336) :
    (sitofp (F := Ideal) .bf16 (weights w) (ix2 k c) : EReal)
      = num (code (nibble ⟨c.val % 8, by omega⟩) (w (ix2 k (⟨c.val / 8, by omega⟩ : Fin 1792)))) := by
  rw [← shifted]
  have e : weights w (ix2 k c) = IntOp.andi (IntOp.shrsi .host (w (ix2 k (⟨c.val / 8, by omega⟩ : Fin 1792)))
      (shifts (ix1 (⟨c.val % 8, by omega⟩ : Fin 8)))) 15#32 := by
    refine (shapeCast_apply _ _ _ (ix3 k (⟨c.val / 8, by omega⟩ : Fin 1792) (⟨c.val % 8, by omega⟩ : Fin 8))
      ((Shape.rowMajor_val_three _).trans (Eq.trans ?_ (Shape.rowMajor_val_two _).symm))).trans ?_
    · show (k.val * 1792 + c.val / 8) * 8 + c.val % 8 = k.val * 14336 + c.val
      omega
    refine congrArg₂ (fun a b => IntOp.andi (IntOp.shrsi .host a b) 15#32) ?_ ?_
    · refine (broadcastInDim_apply _ _ _ _ (ix3 k (⟨c.val / 8, by omega⟩ : Fin 1792) (0 : Fin 1)) fun a => ?_).trans
        (broadcastInDim_apply _ _ _ _ (ix2 k (⟨c.val / 8, by omega⟩ : Fin 1792)) fun a => ?_)
      · match a with
        | ⟨0, _⟩ => rfl
        | ⟨1, _⟩ => rfl
        | ⟨2, _⟩ => rfl
      · match a with
        | ⟨0, _⟩ => rfl
        | ⟨1, _⟩ => rfl
    · refine (broadcastInDim_apply _ _ _ _ (ix3 (0 : Fin 1) (0 : Fin 1) (⟨c.val % 8, by omega⟩ : Fin 8)) fun a => ?_).trans
        (broadcastInDim_apply _ _ _ _ (ix1 (⟨c.val % 8, by omega⟩ : Fin 8)) fun a => ?_)
      · match a with
        | ⟨0, _⟩ => rfl
        | ⟨1, _⟩ => rfl
        | ⟨2, _⟩ => rfl
      · match a with
        | ⟨0, _⟩ => rfl
  exact congrArg (fun b : BitVec 32 => (((b.toInt : ℝ)) : EReal)) e

/-- The codes of the zero points as the reference unpacks them. -/
abbrev zeros (z : Vec Ideal S1792 .i32) : Vec Ideal S1x14336 .i32 :=
  shapeCast _ (andi (Host.shrsi (broadcastInDim S1792x8 ![0, 1] bcast_S1792x1_S1792x8_0_1 (broadcastInDim S1792x1 ![0] bcast_S1792_S1792x1_0 z)) (broadcastInDim S1792x8 ![0, 1] bcast_S1x8_S1792x8_0_1 (broadcastInDim S1x8 ![1] bcast_S8_S1x8_1 shifts))) (broadcastInDim S1792x8 ![] bcast_S_S1792x8 (constantI S_ 32 15#32))) shapeCasts_S1792x8_S1x14336

/-- Each, as a number, is its column's code. -/
theorem zeros_apply (z : Vec Ideal S1792 .i32) (c : Fin 14336) :
    (sitofp (F := Ideal) .f32 (zeros z) (ix2 (0 : Fin 1) c) : EReal)
      = num (code (nibble ⟨c.val % 8, by omega⟩) (z (ix1 (⟨c.val / 8, by omega⟩ : Fin 1792)))) := by
  rw [← shifted]
  have e : zeros z (ix2 (0 : Fin 1) c) = IntOp.andi (IntOp.shrsi .host (z (ix1 (⟨c.val / 8, by omega⟩ : Fin 1792)))
      (shifts (ix1 (⟨c.val % 8, by omega⟩ : Fin 8)))) 15#32 := by
    refine (shapeCast_apply _ _ _ (ix2 (⟨c.val / 8, by omega⟩ : Fin 1792) (⟨c.val % 8, by omega⟩ : Fin 8))
      ((Shape.rowMajor_val_two _).trans (Eq.trans ?_ (Shape.rowMajor_val_two _).symm))).trans ?_
    · show c.val / 8 * 8 + c.val % 8 = 0 * 14336 + c.val
      omega
    refine congrArg₂ (fun a b => IntOp.andi (IntOp.shrsi .host a b) 15#32) ?_ ?_
    · refine (broadcastInDim_apply _ _ _ _ (ix2 (⟨c.val / 8, by omega⟩ : Fin 1792) (0 : Fin 1)) fun a => ?_).trans
        (broadcastInDim_apply _ _ _ _ (ix1 (⟨c.val / 8, by omega⟩ : Fin 1792)) fun a => ?_)
      · match a with
        | ⟨0, _⟩ => rfl
        | ⟨1, _⟩ => rfl
      · match a with
        | ⟨0, _⟩ => rfl
    · refine (broadcastInDim_apply _ _ _ _ (ix2 (0 : Fin 1) (⟨c.val % 8, by omega⟩ : Fin 8)) fun a => ?_).trans
        (broadcastInDim_apply _ _ _ _ (ix1 (⟨c.val % 8, by omega⟩ : Fin 8)) fun a => ?_)
      · match a with
        | ⟨0, _⟩ => rfl
        | ⟨1, _⟩ => rfl
      · match a with
        | ⟨0, _⟩ => rfl
  exact congrArg (fun b : BitVec 32 => (((b.toInt : ℝ)) : EReal)) e

/-- The activations as rows. -/
abbrev rows (x : Vec Ideal S192x1x4096 .bf16) : FVec Ideal S192x4096 .bf16 := shapeCast _ x shapeCasts_S192x1x4096_S192x4096

/-- Row `r`, entry `k` is the argument's. -/
theorem rows_apply (x : Vec Ideal S192x1x4096 .bf16) (r : Fin 192) (k : Fin 4096) :
    (rows x (ix2 r k) : EReal) = x (ix3 r (0 : Fin 1) k) := by
  refine shapeCast_apply _ _ _ _ ((Shape.rowMajor_val_three (ix3 r (0 : Fin 1) k)).trans
    (Eq.trans ?_ (Shape.rowMajor_val_two (ix2 r k)).symm))
  show (r.val * 1 + 0) * 4096 + k.val = r.val * 4096 + k.val
  omega

/-- The row sums. -/
abbrev sums (x : Vec Ideal S192x1x4096 .bf16) : FVec Ideal S192 .f32 :=
  Host.reduceAdd (extf .f32 (rows x) bitsLt_bf16_f32) (constant S_ .f32 0x00000000#32) reducesTo_S192x4096_S192_d1 h_S_

/-- Entry `r` is the sum of row `r`. -/
theorem sums_apply (x : Vec Ideal S192x1x4096 .bf16) (r : Fin 192) :
    (sums x (ix1 r) : EReal) = ∑ k : Fin 4096, (x (ix3 r (0 : Fin 1) k) : EReal) := by
  refine (Ideal.hostReduceAdd_single (s := S192x4096) (t := S192) (a := 1) reducesTo_S192x4096_S192_d1 (by decide)
    (rows x) _ (ix1 r)).trans ?_
  have h0 : (constant (F := Ideal) S_ .f32 0x00000000#32 (Fin.elim0 ·) : EReal) = 0 := Ideal.ofBits_zero_f32
  refine (congrArg₂ (· + ·) h0 (Finset.sum_congr rfl fun k _ => ?_)).trans (zero_add _)
  refine Eq.trans (congrArg (rows x) (funext fun d => Fin.ext ?_)) (rows_apply x r k)
  match d with
  | ⟨0, _⟩ => rfl
  | ⟨1, _⟩ => rfl

/-- The product of the rows with the codes. -/
abbrev product (x : Vec Ideal S192x1x4096 .bf16) (w : Vec Ideal S4096x1792 .i32) : FVec Ideal S192x14336 .f32 :=
  Host.dotGeneral dot_S192x4096_S4096x14336_S192x14336_1_0_0_1_n_n none (rows x) (sitofp (F := Ideal) .bf16 (weights w))

/-- At row `r` and column `c`: the sum of the row's entries times the column's codes. -/
theorem product_apply (x : Vec Ideal S192x1x4096 .bf16) (w : Vec Ideal S4096x1792 .i32) (r : Fin 192) (c : Fin 14336) :
    (product x w (ix2 r c) : EReal) = ∑ k : Fin 4096, (x (ix3 r (0 : Fin 1) k) : EReal)
      * num (code (nibble ⟨c.val % 8, by omega⟩) (w (ix2 k (⟨c.val / 8, by omega⟩ : Fin 1792)))) := by
  refine (dotGeneral_plain_apply (φ₁ := .bf16) (φ₂ := .bf16) none (rows x) (sitofp (F := Ideal) .bf16 (weights w)) r c).trans ?_
  exact Finset.sum_congr rfl fun k _ => congrArg₂ (· * ·) (rows_apply x r k) (weights_apply w k c)

/-- The reference's result of four arguments. -/
abbrev outcome (x : Vec Ideal S192x1x4096 .bf16) (w : Vec Ideal S4096x1792 .i32) (z : Vec Ideal S1792 .i32) (s : Vec Ideal S14336 .bf16) :
    Vec Ideal S192x1x14336 .bf16 :=
  shapeCast _ (truncf .bf16 (mulf (subf (product x w) (mulf (broadcastInDim S192x14336 ![0, 1] bcast_S192x1_S192x14336_0_1 (broadcastInDim S192x1 ![0] bcast_S192_S192x1_0 (sums x))) (broadcastInDim S192x14336 ![0, 1] bcast_S1x14336_S192x14336_0_1 (sitofp .f32 (zeros z))))) (broadcastInDim S192x14336 ![0, 1] bcast_S1x14336_S192x14336_0_1 (broadcastInDim S1x14336 ![1] bcast_S14336_S1x14336_1 (extf .f32 s bitsLt_bf16_f32)))) bitsLt_bf16_f32) shapeCasts_S192x14336_S192x1x14336

/-- At row `r` and column `c` it is `result … r c`. -/
theorem outcome_apply (x : Vec Ideal S192x1x4096 .bf16) (w : Vec Ideal S4096x1792 .i32) (z : Vec Ideal S1792 .i32) (s : Vec Ideal S14336 .bf16)
    (r : Fin 192) (c : Fin 14336) : (outcome x w z s (ix3 r (0 : Fin 1) c) : EReal) = result x w z s r c := by
  refine (shapeCast_apply _ _ _ (ix2 r c) ((Shape.rowMajor_val_two (ix2 r c)).trans
    (Eq.trans ?_ (Shape.rowMajor_val_three (ix3 r (0 : Fin 1) c)).symm))).trans ?_
  · show r.val * 14336 + c.val = (r.val * 1 + 0) * 14336 + c.val
    omega
  refine congrArg₂ (fun a b : EReal => a * b) (congrArg₂ (fun a b : EReal => a - b) (product_apply x w r c)
    (congrArg₂ (fun a b : EReal => a * b) ?_ ?_)) ?_
  · refine ((broadcastInDim_apply _ _ _ _ (ix2 r (0 : Fin 1)) fun a => ?_).trans
      (broadcastInDim_apply _ _ _ _ (ix1 r) fun a => ?_)).trans (sums_apply x r)
    · match a with
      | ⟨0, _⟩ => rfl
      | ⟨1, _⟩ => rfl
    · match a with
      | ⟨0, _⟩ => rfl
  · refine (broadcastInDim_apply _ _ _ _ (ix2 (0 : Fin 1) c) fun a => ?_).trans (zeros_apply z c)
    match a with
    | ⟨0, _⟩ => rfl
    | ⟨1, _⟩ => rfl
  · refine (broadcastInDim_apply _ _ _ _ (ix2 (0 : Fin 1) c) fun a => ?_).trans
      ((broadcastInDim_apply _ _ _ _ (ix1 c) fun a => ?_).trans rfl)
    · match a with
      | ⟨0, _⟩ => rfl
      | ⟨1, _⟩ => rfl
    · match a with
      | ⟨0, _⟩ => rfl

end Cert.ReferenceIdeal.Read
-- ==== Proof.Equation.lean ====
/-
  The kernel's and the reference's results are one array: at every row and column both are `result` of the arguments.
-/
module

public import proofs.«01_k».proof.Defs
public import proofs.«01_k».proof.Proof.Array
public import proofs.«01_k».proof.Proof.Reference

@[expose] public section

noncomputable section

namespace Cert.Proof

open Idealize.ShloMosaic Idealize.ShloMosaic.ValueIdx Idealize.SL.Sem

/-- From arguments that agree, the reference's result is the kernel's. -/
theorem same (m : (ℓ : Loc Cert.KernelIdeal.nD Cert.KernelIdeal.τ Cert.KernelIdeal.sig) → Buf (Elt Ideal) ℓ) (c : Dev Cert.KernelIdeal.nD) :
    Cert.ReferenceIdeal.Read.outcome
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Array.outcome m c := by
  funext i
  have ei : i = ix3 (i 0) (0 : Fin 1) (i 2) := (eq_ix3 i).trans (congrArg (fun b => ix3 (i 0) b (i 2)) (Subsingleton.elim (α := Fin 1) (i 1) 0))
  rw [ei]
  exact (Cert.ReferenceIdeal.Read.outcome_apply _ _ _ _ (i 0) (i 2)).trans (Cert.KernelIdeal.Array.outcome_apply m c (i 0) (i 2)).symm

/-- The reference terminates with its arguments unchanged and every counter at zero; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference leave one result, from arguments that agree. -/
theorem algebraic : Cert.algebraic_KernelIdeal_ReferenceIdeal := by
  intro m ρ m' ρ' _ hagree
  refine ⟨fun c => Cert.KernelIdeal.Array.outcome m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3⟩ := hagree c
  rw [a0, a1, a2, a3]
  exact same m c

end Cert.Proof
-- ==== Proof.lean ====
/-
  The claims of the statement, assembled. The kernel's frames are the generated ones, the reference's frame and the
  equality of the two results are proved in `Proof/Equation.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The three frames, the preservation and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
